-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_no_tie_so_far [hKernelIdeal : Cert.KernelIdeal.Facts] [hReferenceIdeal : Cert.ReferenceIdeal.Facts] [hOn_no_tie_so_far : Cert.On_no_tie_so_far.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 2048]⟩ (Layout.meshBlock [2, 2, 2] ![[], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 8]⟩ : Shape).Idx, (Cert.On_no_tie_so_far.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![256, 8]⟩ : Shape).Idx, (Cert.On_no_tie_so_far.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_no_tie_so_far : Cert.On_no_tie_so_far.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_no_tie_so_far (hKernelIdeal := hKernelIdeal) (hReferenceIdeal := hReferenceIdeal) (hOn_no_tie_so_far := hOn_no_tie_so_far)
-- ==== On_no_tie_so_far.lean ====
abbrev S256x2048 : Shape := ⟨2, ![256, 2048]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩
abbrev S256x1 : Shape := ⟨2, ![256, 1]⟩

class Facts : Prop where
  slices_S256x2048_S256x8_0_0 : S256x2048.Slices ![0, 0] S256x8
  bcast_S_S256x8 : S_.BroadcastsInDim S256x8 (![] : Fin 0 → Fin S256x8.rank)
  shapeCasts_S256x8_S256x8x1 : S256x8.ShapeCasts S256x8x1
  bcast_S_S256x8x1 : S_.BroadcastsInDim S256x8x1 (![] : Fin 0 → Fin S256x8x1.rank)
  bcast_S1_S1x1x1_2 : S1.BroadcastsInDim S1x1x1 (![2] : Fin 1 → Fin S1x1x1.rank)
  bcast_S1x1x1_S256x8x1_0_1_2 : S1x1x1.BroadcastsInDim S256x8x1 (![0, 1, 2] : Fin 3 → Fin S256x8x1.rank)
  reducesTo_S256x8x1_S256x8_d2 : S256x8x1.ReducesTo [2] S256x8
  h_S_ : 0 < S_.numel
  bcast_S_S256x1 : S_.BroadcastsInDim S256x1 (![] : Fin 0 → Fin S256x1.rank)
  slices_S256x8_S256x1_0_1 : S256x8.Slices ![0, 1] S256x1
  slices_S256x8_S256x1_0_0 : S256x8.Slices ![0, 0] S256x1
  slices_S256x8_S256x1_0_2 : S256x8.Slices ![0, 2] S256x1
  slices_S256x8_S256x1_0_3 : S256x8.Slices ![0, 3] S256x1
  slices_S256x8_S256x1_0_4 : S256x8.Slices ![0, 4] S256x1
  slices_S256x8_S256x1_0_5 : S256x8.Slices ![0, 5] S256x1
  slices_S256x8_S256x1_0_6 : S256x8.Slices ![0, 6] S256x1
  slices_S256x8_S256x1_0_7 : S256x8.Slices ![0, 7] S256x1
  concatenates_S256x1_S256x1_S256x1_S256x1_S256x1_S256x1_S256x1_S256x1_S256x8_d1 : Shape.Concatenates [S256x1, S256x1, S256x1, S256x1, S256x1, S256x1, S256x1, S256x1] S256x8 1
  gather_S256x2048_S256x8x1_S256x8_n_1_0_0_1_2_11_wf : GatherDims.WF S256x2048 S256x8x1 S256x8 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S256x2048_S256x8x1_S256x8_n_1_0_0_1_2_11 : GatherDims S256x2048 S256x8x1 S256x8 where
  offsetDims := []
  collapsedSliceDims := [1]
  operandBatchingDims := [0]
  startIndicesBatchingDims := [0]
  startIndexMap := [1]
  indexVectorDim := 2
  sliceSizes := ![1, 1]
  wf := gather_S256x2048_S256x8x1_S256x8_n_1_0_0_1_2_11_wf

def fn_argsort {F : FTy → Type} [FloatOps F] (arg0 : FVec F S256x2048 .f32) : IVec S256x2048 32 :=
  let v0 : IVec S256x2048 32 := iotaInDim S256x2048 32 1
  let v1_0 : FVec F S256x2048 .f32 := (fun x y => (Host.sort2 S256x2048 1 comparator_f32_i32_d1 x y).1) arg0 v0
  let v1_1 : IVec S256x2048 32 := (fun x y => (Host.sort2 S256x2048 1 comparator_f32_i32_d1 x y).2) arg0 v0
  v1_1

def fn_take_along_axis {F : FTy → Type} [FloatOps F] (arg0 : FVec F S256x2048 .f32) (arg1 : IVec S256x8 32) : FVec F S256x8 .f32 :=
  let c : IVec S_ 32 := constantI S_ 32 0#32
  let v0 : IVec S256x8 32 := broadcastInDim S256x8 ![] bcast_S_S256x8 c
  let v1 : IVec S256x8 1 := cmpi .slt arg1 v0
  let c_0 : IVec S_ 32 := constantI S_ 32 2048#32
  let v2 : IVec S256x8 32 := broadcastInDim S256x8 ![] bcast_S_S256x8 c_0
  let v3 : IVec S256x8 32 := addi arg1 v2
  let v4 : IVec S256x8 32 := select v1 v3 arg1
  let v5 : IVec S256x8x1 32 := shapeCast S256x8x1 v4 shapeCasts_S256x8_S256x8x1
  let c_1 : IVec S1 32 := constantI S1 32 2047#32
  let c_2 : IVec S_ 32 := constantI S_ 32 0#32
  let v6 : IVec S256x8x1 32 := broadcastInDim S256x8x1 ![] bcast_S_S256x8x1 c_2
  let v7 : IVec S256x8x1 1 := cmpi .sge v5 v6
  let v8 : IVec S1x1x1 32 := broadcastInDim S1x1x1 ![2] bcast_S1_S1x1x1_2 c_1
  let v9 : IVec S256x8x1 32 := broadcastInDim S256x8x1 ![0, 1, 2] bcast_S1x1x1_S256x8x1_0_1_2 v8
  let v10 : IVec S256x8x1 1 := cmpi .sle v5 v9
  let v11 : IVec S256x8x1 1 := andi v7 v10
  let c_3 : IVec S_ 1 := constantI S_ 1 1#1
  let v12 : IVec S256x8 1 := (fun x v => Host.reduce IntOp.andi x v reducesTo_S256x8x1_S256x8_d2 h_S_) v11 c_3
  let v13 : FVec F S256x8 .f32 := (fun x i => Host.gather gather_S256x2048_S256x8x1_S256x8_n_1_0_0_1_2_11 x i) arg0 v5
  let cst : FVec F S_ .f32 := constant S_ .f32 0x7FC00000#32
  let v14 : FVec F S256x8 .f32 := broadcastInDim S256x8 ![] bcast_S_S256x8 cst
  let v15 : FVec F S256x8 .f32 := select v12 v13 v14
  v15

def fn_part1 {F : FTy → Type} [FloatOps F] (main_v3 : FVec F S256x8 .f32) (main_v4 : IVec S256x1 1) (main_v8 : IVec S256x1 1) (main_v12 : IVec S256x1 1) (main_v16 : IVec S256x1 1) (main_v20 : IVec S256x1 1) (main_v21 : FVec F S256x1 .f32) (main_v22 : FVec F S256x1 .f32) : IVec S256x8 1 :=
  let main_v23 : IVec S256x1 1 := cmpf .olt main_v21 main_v22
  let main_v24 : IVec S256x1 1 := andi main_v20 main_v23
  let main_v25 : FVec F S256x1 .f32 := (extractStridedSlice S256x1 ![0, 6] · slices_S256x8_S256x1_0_6) main_v3
  let main_v26 : FVec F S256x1 .f32 := (extractStridedSlice S256x1 ![0, 5] · slices_S256x8_S256x1_0_5) main_v3
  let main_v27 : IVec S256x1 1 := cmpf .olt main_v25 main_v26
  let main_v28 : IVec S256x1 1 := andi main_v24 main_v27
  let main_v29 : FVec F S256x1 .f32 := (extractStridedSlice S256x1 ![0, 7] · slices_S256x8_S256x1_0_7) main_v3
  let main_v30 : FVec F S256x1 .f32 := (extractStridedSlice S256x1 ![0, 6] · slices_S256x8_S256x1_0_6) main_v3
  let main_v31 : IVec S256x1 1 := cmpf .olt main_v29 main_v30
  let main_v32 : IVec S256x1 1 := andi main_v28 main_v31
  let main_v33 : IVec S256x8 1 := concatenate S256x8 1 [⟨S256x1, main_v4⟩, ⟨S256x1, main_v8⟩, ⟨S256x1, main_v12⟩, ⟨S256x1, main_v16⟩, ⟨S256x1, main_v20⟩, ⟨S256x1, main_v24⟩, ⟨S256x1, main_v28⟩, ⟨S256x1, main_v32⟩] concatenates_S256x1_S256x1_S256x1_S256x1_S256x1_S256x1_S256x1_S256x1_S256x8_d1
  let main_cst : FVec F S_ .f32 := constant S_ .f32 0xFF7FFFFF#32
  let main_v34 : FVec F S256x8 .f32 := broadcastInDim S256x8 ![] bcast_S_S256x8 main_cst
  let main_v35 : IVec S256x8 1 := cmpf .oge main_v3 main_v34
  let main_v36 : IVec S256x8 1 := andi main_v33 main_v35
  main_v36

def fn {F : FTy → Type} [FloatOps F] (main_arg0 : FVec F S256x2048 .f32) : IVec S256x8 1 :=
  let main_v0 : FVec F S256x2048 .f32 := Host.negf main_arg0
  let main_v1 : IVec S256x2048 32 := fn_argsort (F := F) main_v0
  let main_v2 : IVec S256x8 32 := (extractStridedSlice S256x8 ![0, 0] · slices_S256x2048_S256x8_0_0) main_v1
  let main_v3 : FVec F S256x8 .f32 := fn_take_along_axis (F := F) main_arg0 main_v2
  let main_c : IVec S_ 1 := constantI S_ 1 1#1
  let main_v4 : IVec S256x1 1 := broadcastInDim S256x1 ![] bcast_S_S256x1 main_c
  let main_v5 : FVec F S256x1 .f32 := (extractStridedSlice S256x1 ![0, 1] · slices_S256x8_S256x1_0_1) main_v3
  let main_v6 : FVec F S256x1 .f32 := (extractStridedSlice S256x1 ![0, 0] · slices_S256x8_S256x1_0_0) main_v3
  let main_v7 : IVec S256x1 1 := cmpf .olt main_v5 main_v6
  let main_v8 : IVec S256x1 1 := andi main_v4 main_v7
  let main_v9 : FVec F S256x1 .f32 := (extractStridedSlice S256x1 ![0, 2] · slices_S256x8_S256x1_0_2) main_v3
  let main_v10 : FVec F S256x1 .f32 := (extractStridedSlice S256x1 ![0, 1] · slices_S256x8_S256x1_0_1) main_v3
  let main_v11 : IVec S256x1 1 := cmpf .olt main_v9 main_v10
  let main_v12 : IVec S256x1 1 := andi main_v8 main_v11
  let main_v13 : FVec F S256x1 .f32 := (extractStridedSlice S256x1 ![0, 3] · slices_S256x8_S256x1_0_3) main_v3
  let main_v14 : FVec F S256x1 .f32 := (extractStridedSlice S256x1 ![0, 2] · slices_S256x8_S256x1_0_2) main_v3
  let main_v15 : IVec S256x1 1 := cmpf .olt main_v13 main_v14
  let main_v16 : IVec S256x1 1 := andi main_v12 main_v15
  let main_v17 : FVec F S256x1 .f32 := (extractStridedSlice S256x1 ![0, 4] · slices_S256x8_S256x1_0_4) main_v3
  let main_v18 : FVec F S256x1 .f32 := (extractStridedSlice S256x1 ![0, 3] · slices_S256x8_S256x1_0_3) main_v3
  let main_v19 : IVec S256x1 1 := cmpf .olt main_v17 main_v18
  let main_v20 : IVec S256x1 1 := andi main_v16 main_v19
  let main_v21 : FVec F S256x1 .f32 := (extractStridedSlice S256x1 ![0, 5] · slices_S256x8_S256x1_0_5) main_v3
  let main_v22 : FVec F S256x1 .f32 := (extractStridedSlice S256x1 ![0, 4] · slices_S256x8_S256x1_0_4) main_v3
  fn_part1 (F := F) main_v3 main_v4 main_v8 main_v12 main_v16 main_v20 main_v21 main_v22
-- ==== Kernel.lean ====
abbrev S256x1024 : Shape := ⟨2, ![256, 1024]⟩
abbrev S256x8 : Shape := ⟨2, ![256, 8]⟩
abbrev S_ : Shape := ⟨0, ![]⟩
abbrev S256 : Shape := ⟨1, ![256]⟩
abbrev S256x1 : Shape := ⟨2, ![256, 1]⟩
abbrev S256x16 : Shape := ⟨2, ![256, 16]⟩

abbrev nBuf : Space → Nat
  | .hbm => 2
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S256x8, .f32⟩
  | .local _ .vmem, ⟨0, _⟩ => ⟨S256x1024, .f32⟩
  | .local _ .vmem, ⟨1, _⟩ => ⟨S256x8, .f32⟩
  | .local _ .vmem, ⟨2, _⟩ => ⟨S256x8, .f32⟩
  | .local _ .vmem, ⟨3, _⟩ => ⟨S256x8, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v67 : BitVec 32 := Scalar.muli v2 c4_i32_26
  let v68 : BitVec 32 := Scalar.addi c0_i32_27 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v69 : BitVec 32 := Scalar.muli v5 c2_i32_28
  let v70 : BitVec 32 := Scalar.addi v68 v69
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_29 : BitVec 32 := 1#32
  let v71 : BitVec 32 := Scalar.muli v9 c1_i32_29
  let v72 : BitVec 32 := Scalar.addi v70 v71
  v72.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x2048 : Shape := ⟨2, ![256, 2048]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .i32⟩
  | .hbm, ⟨3, _⟩ => ⟨S256x2048, .f32⟩
  | .hbm, ⟨4, _⟩ => ⟨S256x2048, .i32⟩
  | .hbm, ⟨5, _⟩ => ⟨S256x8, .i32⟩
  | .hbm, ⟨6, _⟩ => ⟨S_, .i32⟩
  | .hbm, ⟨7, _⟩ => ⟨S256x8, .i32⟩
  | .hbm, ⟨8, _⟩ => ⟨S256x8, .i1⟩
  | .hbm, ⟨9, _⟩ => ⟨S_, .i32⟩
  | .hbm, ⟨10, _⟩ => ⟨S256x8, .i32⟩
  | .hbm, ⟨11, _⟩ => ⟨S256x8, .i32⟩
  | .hbm, ⟨12, _⟩ => ⟨S256x8, .i32⟩
  | .hbm, ⟨13, _⟩ => ⟨S256x8x1, .i32⟩
  | .hbm, ⟨14, _⟩ => ⟨S1, .i32⟩
  | .hbm, ⟨15, _⟩ => ⟨S_, .i32⟩
  | .hbm, ⟨16, _⟩ => ⟨S256x8x1, .i32⟩
  | .hbm, ⟨17, _⟩ => ⟨S256x8x1, .i1⟩
  | .hbm, ⟨18, _⟩ => ⟨S1x1x1, .i32⟩
  | .hbm, ⟨19, _⟩ => ⟨S256x8x1, .i32⟩
  | .hbm, ⟨20, _⟩ => ⟨S256x8x1, .i1⟩
  | .hbm, ⟨21, _⟩ => ⟨S256x8x1, .i1⟩
  | .hbm, ⟨22, _⟩ => ⟨S_, .i1⟩
  | .hbm, ⟨23, _⟩ => ⟨S256x8, .i1⟩
  | .hbm, ⟨24, _⟩ => ⟨S256x8, .f32⟩
  | .hbm, ⟨25, _⟩ => ⟨S_, .f32⟩
  | .hbm, ⟨26, _⟩ => ⟨S256x8, .f32⟩
  | .hbm, ⟨27, _⟩ => ⟨S256x8, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Protocol.lean ====
/-
# The exchange between a device and its neighbour along `z`

Device `c` and its peer (same `x`, same `y`, the other `z`) run the same text. Each signals the other's barrier
semaphore, computes the eight candidates of its own block into its candidate buffer, waits for one signal on its own
barrier semaphore, and copies the candidate buffer into the peer's landing buffer. It then waits for the peer's copy,
merges, and last waits until its own copy has been read out.

This module states that exchange as one round on three semaphores per device:

* its barrier semaphore, raised once, by the peer's signal. With the signal comes the peer's landing buffer, at any
  contents, and the fact that the peer's receive semaphore is at its first round: what the copy into it needs;
* its send semaphore, raised by its own copy, which gives the candidate buffer back unchanged;
* its receive semaphore, raised by the peer's copy. With it comes the own landing buffer, holding the peer's candidates.

Everything is over any float values `F`. What the buffers hold is stated, so that the same schedule serves the claims
about safety and the claim about the result.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pointwise.Reshape

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the pipeline's copy, and one copy for the exchange -/

abbrev UX : Type := URounds (GSem nD τ sig) Unit
abbrev UU : Type := UR sig nD τ × UX

local notation "𝕄" => MT nD τ sig Unit (Elt F) ℕ UU ℕ

/-- Where the pipeline's ghost state sits, -/
abbrev EP : Emb (UR sig nD τ) (MT nD τ sig Unit (Elt F) ℕ UU ℕ) := embL
/-- and where the exchange's does. -/
abbrev EX : Emb UX (MT nD τ sig Unit (Elt F) ℕ UU ℕ) := embR

variable (m : (ℓ : Loc nD τ sig) → Buf (Elt F) ℓ)

/-! ## The peer -/

set_option backward.proofsInPublic true in
/-- The device with the same `x` and `y` and the other `z`. -/
def peer (c : Dev nD) : Dev nD := ⟨(4 * (c.val / 4) + 2 * ((c.val / 2) % 2) + 1) - (c.val % 2), by have := c.isLt; simp only [nD] at this ⊢; omega⟩

theorem peer_peer (c : Dev nD) : peer (peer c) = c := by revert c; decide

/-- Both the signal and the copy are addressed to the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

/-- The exchange of the devices, as a bijection. -/
def swap : Dev nD ≃ Dev nD := ⟨peer, peer, peer_peer, peer_peer⟩

/-! ## Buffers and semaphores -/

/-- The staged block of `x`, the staged result, the candidate buffer and the landing buffer. -/
abbrev xM : Memref sig .tc .vmem S256x1024 .f32 := Memref.whole cc0_stg0_0
abbrev oM : Memref sig .tc .vmem S256x8 .f32 := Memref.whole cc0_stg1_0
abbrev candM : Memref sig .tc .vmem S256x8 .f32 := Memref.whole cc0_scratch0
abbrev landM : Memref sig .tc .vmem S256x8 .f32 := Memref.whole cc0_scratch1

/-- The barrier semaphore belongs to the runtime; the other two are scratch of the kernel. -/
abbrev barS : Sem sig := (SemArray.scalar (sig.barrier 0 rfl) : Sems sig S_).sem
abbrev sendS : DmaSem sig := (cc0_scratch2 : DmaSems sig S_).sem
abbrev recvS : DmaSem sig := (cc0_scratch3 : DmaSems sig S_).sem

abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)

/-- What one copy of the candidates adds to a semaphore. -/
abbrev N : ℕ := (landM : Memref sig .tc .vmem S256x8 .f32).view.dmaCredit
theorem N_pos : 0 < N := View.dmaCredit_pos _ (by decide)

theorem send_ne_bar : (SemLoc.dma sendS : SemLoc sig) ≠ .reg barS := fun h => by cases h
theorem recv_ne_bar : (SemLoc.dma recvS : SemLoc sig) ≠ .reg barS := fun h => by cases h
theorem send_ne_recv : (SemLoc.dma sendS : SemLoc sig) ≠ .dma recvS := by decide

/-! ## Contents -/

/-- The eight candidates of a block, as the first half of the body computes them. -/
def candOf (x : Vec F S256x1024 .f32) : FVec F S256x8 .f32 := k0_pay9 (k0_pay3 x) (k0_pay5 x) (k0_pay7 x) (k0_pay8 x)

/-- The eight largest of two candidate lists, as the second half computes them. -/
def mergeOf (v w : FVec F S256x8 .f32) : FVec F S256x8 .f32 :=
  k0_pay1 (k0_pay12 v w) (k0_pay14 v w) (k0_pay16 v w) (k0_pay18 v w) (k0_pay20 v w) (k0_pay22 v w) (k0_pay23 v w) (k0_pay24 v w)

/-- The candidate buffer is written with the candidates themselves: the cast in between keeps the shape. -/
theorem stored_eq (x : Vec F S256x1024 .f32) : k0_pay10 (k0_pay3 x) (k0_pay5 x) (k0_pay7 x) (k0_pay8 x) = candOf x :=
  shapeCast_id _ _

/-- Device `c`'s staged block of `x`, its candidates, and its result. -/
def xs (c : Dev nD) : (cc0_stg0_0 : Ref sig .tc).ty.Contents (Elt F) :=
  (win0_0.blk (0 : Fin 1)).view.read (Elt F) (m ((c : Thread nD τ).loc main_arg0))
def cand (c : Dev nD) : (cc0_scratch0 : Ref sig .tc).ty.Contents (Elt F) := candOf (xs m c)
def outAt (c : Dev nD) : (cc0_stg1_0 : Ref sig .tc).ty.Contents (Elt F) := mergeOf (cand m c) (cand m (peer c))

/-- The candidate buffer of device `c` at contents `f`, and its landing buffer. -/
def candPts (c : Dev nD) (f : Buf (Elt F) ((candM : Memref sig .tc .vmem S256x8 .f32).view.loc (c : Thread nD τ))) : sProp 𝕄 :=
  (candM : Memref sig .tc .vmem S256x8 .f32).view.loc (c : Thread nD τ) ↦[(candM : Memref sig .tc .vmem S256x8 .f32).view.set]{fullShare} f
def landPts (c : Dev nD) (f : Buf (Elt F) ((landM : Memref sig .tc .vmem S256x8 .f32).view.loc (c : Thread nD τ))) : sProp 𝕄 :=
  (landM : Memref sig .tc .vmem S256x8 .f32).view.loc (c : Thread nD τ) ↦[(landM : Memref sig .tc .vmem S256x8 .f32).view.set]{fullShare} f

omit [FloatOps F] in
instance candPts_storable (c : Dev nD) (f) : BI.Storable (upEmb : UEmb _ 𝕄) (candPts (F := F) c f) := by unfold candPts; infer_instance
omit [FloatOps F] in
instance landPts_storable (c : Dev nD) (f) : BI.Storable (upEmb : UEmb _ 𝕄) (landPts (F := F) c f) := by unfold landPts; infer_instance

omit [FloatOps F] in
theorem candPts_eq (c : Dev nD) (f : Buf (Elt F) ((c : Thread nD τ).loc cc0_scratch0)) :
    candPts c f = (((c : Thread nD τ).loc cc0_scratch0) ↦{fullShare} f : sProp 𝕄) := by unfold candPts; rw [View.set_whole]
omit [FloatOps F] in
theorem landPts_eq (c : Dev nD) (f : Buf (Elt F) ((c : Thread nD τ).loc cc0_scratch1)) :
    landPts c f = (((c : Thread nD τ).loc cc0_scratch1) ↦{fullShare} f : sProp 𝕄) := by unfold landPts; rw [View.set_whole]

omit [FloatOps F] in
/-- A whole candidate buffer copied over a whole landing buffer leaves the candidates there. -/
theorem copied_eq (c : Dev nD) (fd : Buf (Elt F) ((landM : Memref sig .tc .vmem S256x8 .f32).view.loc (c : Thread nD τ)))
    (fs : (cc0_scratch0 : Ref sig .tc).ty.Contents (Elt F)) :
    (landM : Memref sig .tc .vmem S256x8 .f32).view.write (Elt F) fd ((candM : Memref sig .tc .vmem S256x8 .f32).view.read (Elt F) fs) Finset.univ = fs := by
  show (View.whole cc0_scratch1).write (Elt F) fd ((View.whole cc0_scratch0).read (Elt F) fs) Finset.univ = fs
  rw [View.read_whole]
  exact View.write_whole_univ _ _ _

/-! ## The schedule -/

/-- What comes with the signal on `c`'s barrier semaphore, with `c`'s copy read out, and with the peer's copy landed. -/
def barPay (c : Dev nD) : sProp 𝕄 := iprop((∃ f, landPts (peer c) f) ∗ reached EX (recvCell (peer c)) 0)
def sendPay (c : Dev nD) : sProp 𝕄 := candPts c (cand m c)
def recvPay (c : Dev nD) : sProp 𝕄 := landPts c (cand m (peer c))

/-- The three semaphores of the exchange on a TensorCore. -/
abbrev Taking (g : GSem nD τ sig) : Prop := g.1.2 = .tc ∧ (g.2 = .reg barS ∨ g.2 = .dma sendS ∨ g.2 = .dma recvS)

/-- Each of them is raised once, in round 0: the barrier semaphore by one unit, the other two by a copy's amount. -/
def sched : Rounds.Schedule (GSem nD τ sig) Unit 𝕄 where
  duties g r := if r = 0 ∧ Taking g then {()} else ∅
  unitless _ := False
  amount g _ _ := if g.2 = .reg barS then 1 else N
  payload g _ _ :=
    if g.2 = .reg barS then barPay g.1.1
    else if g.2 = .dma recvS then recvPay m g.1.1
    else if g.2 = .dma sendS then sendPay m g.1.1
    else iprop(emp)
  amount_pos g _ _ _ := by
    split
    · exact Nat.one_pos
    · exact N_pos

instance sched_storable (g : GSem nD τ sig) (r : ℕ) (d : Unit) :
    BI.Storable (upEmb : UEmb _ 𝕄) ((sched (F := F) m).payload g r d) := by
  dsimp only [sched]
  unfold barPay recvPay sendPay
  (repeat' split) <;> infer_instance

section Sched
variable (c : Dev nD)

theorem duties_at (s : SemLoc sig) (h : s = .reg barS ∨ s = .dma sendS ∨ s = .dma recvS) :
    (sched m).duties ((c : Thread nD τ), s) 0 = {()} := by
  dsimp only [sched]; exact if_pos ⟨rfl, rfl, h⟩
theorem duties_bar : (sched m).duties (barCell c) 0 = {()} := duties_at m c _ (.inl rfl)
theorem duties_send : (sched m).duties (sendCell c) 0 = {()} := duties_at m c _ (.inr (.inl rfl))
theorem duties_recv : (sched m).duties (recvCell c) 0 = {()} := duties_at m c _ (.inr (.inr rfl))
theorem duties_later (g : GSem nD τ sig) : ∀ r, 1 ≤ r → (sched m).duties g r = ∅ :=
  fun r hr => by dsimp only [sched]; exact if_neg fun h => by omega

theorem amount_bar : (sched m).amount (barCell c) 0 () = 1 := by dsimp only [sched]; exact if_pos rfl
theorem amount_send : (sched m).amount (sendCell c) 0 () = N := by dsimp only [sched]; exact if_neg send_ne_bar
theorem amount_recv : (sched m).amount (recvCell c) 0 () = N := by dsimp only [sched]; exact if_neg recv_ne_bar

theorem expect_of (g : GSem nD τ sig) (h : (sched m).duties g 0 = {()}) : (sched m).expect g 0 = (sched m).amount g 0 () := by
  unfold Schedule.expect Schedule.amountOf; rw [h, Finset.sum_singleton]
theorem expect_bar : (sched m).expect (barCell c) 0 = 1 := (expect_of m _ (duties_bar m c)).trans (amount_bar m c)
theorem expect_send : (sched m).expect (sendCell c) 0 = N := (expect_of m _ (duties_send m c)).trans (amount_send m c)
theorem expect_recv : (sched m).expect (recvCell c) 0 = N := (expect_of m _ (duties_recv m c)).trans (amount_recv m c)

theorem payload_bar : (sched m).payload (barCell c) 0 () = barPay c := by dsimp only [sched]; rw [if_pos rfl]
theorem payload_send : (sched m).payload (sendCell c) 0 () = sendPay m c := by
  dsimp only [sched]; rw [if_neg send_ne_bar, if_neg send_ne_recv, if_pos rfl]
theorem payload_recv : (sched m).payload (recvCell c) 0 () = recvPay m c := by
  dsimp only [sched]; rw [if_neg recv_ne_bar, if_pos rfl]

/-- What a wait for a whole round of one raise hands over. -/
theorem rest_of (g : GSem nD τ sig) (h : (sched m).duties g 0 = {()}) :
    bigSep ((sched m).duties g 0 \ ∅) (fun d => (sched m).payload g 0 d) = (sched m).payload g 0 () := by
  rw [Finset.sdiff_empty, h, bigSep_singleton]

end Sched

/-! ## What a device owes at the start, and the order of the waits -/

/-- It owes its peer's receive semaphore one copy and its peer's barrier semaphore one unit. -/
def owed (c : Dev nD) : CellTallies nD τ sig Unit := tallyAt (recvCell (peer c)) () N + tallyAt (barCell (peer c)) () 1

def L (g : GSem nD τ sig) : Finset Unit := if g.1.2 = .tc then {()} else ∅
/-- Barrier semaphores below receive semaphores, all others below both. -/
def lv (g : GSem nD τ sig) (_ : Unit) : ℕ := if g.2 = .reg barS then 1 else if g.2 = .dma recvS then 2 else 0

theorem L_of_ne (g : GSem nD τ sig) (h : g.1.2 ≠ .tc) : L g = ∅ := if_neg h
theorem mem_L (c : Dev nD) (s : SemLoc sig) : () ∈ L ((c : Thread nD τ), s) := by
  rw [show L ((c : Thread nD τ), s) = {()} from if_pos rfl]; exact Finset.mem_singleton_self _
theorem lv_bar (c : Dev nD) : lv (barCell c) () = 1 := if_pos rfl
theorem lv_recv (c : Dev nD) : lv (recvCell c) () = 2 := (if_neg recv_ne_bar).trans (if_pos rfl)

/-- Where a single tally is positive. -/
theorem cell_of_pos {g g' : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

omit [FloatOps F] in
/-- The waits on the staging copies stand below everything owed. -/
theorem mayWait_stage (c : Dev nD) (q : DmaSem sig) (hq : SemLoc.dma q ≠ .dma recvS) (O : CellTallies nD τ sig Unit) (hO : O = owed c ∨ O = 0) :
    (levAts L lv : sProp 𝕄) ⊢ MayWait (c : Thread nD τ) (.dma q) () O := by
  rcases hO with rfl | rfl
  · have hlow : lv ((c : Thread nD τ), .dma q) () = 0 := (if_neg fun h => by cases h).trans (if_neg hq)
    refine Pipeline.mayWait_of_levAts (mem_L c _) fun g i hg => ?_
    rw [hlow]
    rcases Pipeline.add_pos_cases hg with h | h <;> rw [cell_of_pos h] <;> refine ⟨mem_L _ _, ?_⟩
    · exact (lv_recv (peer c)).symm ▸ Nat.succ_pos 1
    · exact (lv_bar (peer c)).symm ▸ Nat.one_pos
  · rw [MayWait_zero]; iintro -; iempintro

omit [FloatOps F] in
/-- At its barrier wait a device owes only the copy: a receive semaphore, above its barrier semaphore. -/
theorem mayWait_bar (c : Dev nD) :
    (levAts L lv : sProp 𝕄) ⊢ MayWait (c : Thread nD τ) (.reg barS) () (tallyAt (recvCell (peer c)) () N) :=
  Pipeline.mayWait_of_levAts (mem_L c _) fun g i hg => by
    rw [cell_of_pos hg]
    exact ⟨mem_L _ _, by rw [show i = () from rfl, lv_recv]; exact (lv_bar c).symm ▸ Nat.lt_succ_self 1⟩

end Cert.Exchange

end
-- ==== Proof.Body.lean ====
/-
# The kernel's body, run once at any device

The body is run in program order from what a device holds at its start: its share of the exchange's ghost state, its two
scratch buffers at any contents, its staged block of `x` and its staged result. It ends with the result at `outAt`, the
scratch buffers back, and its three semaphores at zero.
-/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device starts from and ends with -/

/-- The three semaphores of a device as the exchange numbers them: barrier, send, receive. -/
abbrev csem : Fin 3 → SemLoc sig := fun | 0 => .reg barS | 1 => .dma sendS | 2 => .dma recvS
abbrev kcell (ck : Dev nD × Fin 3) : GSem nD τ sig := ((ck.1 : Thread nD τ), csem ck.2)

/-- The invariants device `c` opens, at the names `K` they were allocated under: its own three, and its peer's barrier
    and receive semaphores'. -/
def invs (K : Dev nD × Fin 3 → ℕ) (c : Dev nD) : sProp 𝕄 :=
  iprop(cellInv EX (sched m) (K (c, 0)) (barCell c) ∗ cellInv EX (sched m) (K (c, 1)) (sendCell c) ∗ cellInv EX (sched m) (K (c, 2)) (recvCell c)
    ∗ cellInv EX (sched m) (K (peer c, 0)) (barCell (peer c)) ∗ cellInv EX (sched m) (K (peer c, 2)) (recvCell (peer c)))

instance invs_persistent (K : Dev nD × Fin 3 → ℕ) (c : Dev nD) : BI.Persistent (invs m K c) := by unfold invs; infer_instance

/-- Device `c`'s place at the start of round 0 of its three semaphores. -/
def places (c : Dev nD) : sProp 𝕄 := iprop(atPos EX (barCell c) 0 ∅ 0 ∗ atPos EX (sendCell c) 0 ∅ 0 ∗ atPos EX (recvCell c) 0 ∅ 0)

/-- The three raises that device `c` makes: its peer's barrier, its peer's receive semaphore, its own send semaphore. -/
def raises (c : Dev nD) : sProp 𝕄 := iprop(dutyTok EX (barCell (peer c)) 0 () ∗ dutyTok EX (sendCell c) 0 () ∗ dutyTok EX (recvCell (peer c)) 0 ())

/-- The semaphores that stand at round 0 and that device `c` speaks of. -/
def marks (c : Dev nD) : sProp 𝕄 := iprop(reached EX (barCell (peer c)) 0 ∗ reached EX (sendCell c) 0 ∗ reached EX (recvCell c) 0)

instance marks_persistent (c : Dev nD) : BI.Persistent (marks (F := F) c) := by unfold marks; infer_instance

/-- The exchange's ghost state at device `c`. -/
def ghost (K : Dev nD × Fin 3 → ℕ) (c : Dev nD) : sProp 𝕄 := iprop(invs m K c ∗ marks c ∗ places c ∗ raises c)

/-- What the body starts from, beside its buffers: the ghost state, the credit for its two waits on what the peer
    raises, and the order of the waits. -/
def start (c : Dev nD) : sProp 𝕄 :=
  iprop((∃ K, ghost m K c) ∗ cred (tallyAt (barCell c) () 1) ∗ cred (tallyAt (recvCell c) () N) ∗ levAts L lv)

def before (c : Dev nD) : sProp 𝕄 := iprop(start m c ∗ (∃ f, candPts c f) ∗ ∃ f, landPts c f)
/-- What it ends with, beside its staged buffers: the scratch buffers at the two candidate lists and the three semaphores
    at zero. -/
def after (c : Dev nD) : sProp 𝕄 :=
  iprop((candPts c (cand m c) ∗ landPts c (cand m (peer c))) ∗ semVal (sendCell c) 0 ∗ semVal (recvCell c) 0 ∗ semVal (barCell c) 0)

/-- The pipeline's data: nothing but the two whole arrays, one step, and what is owed at its two ends. -/
def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => outAt m c
  Φ t := match t with
    | ⟨0, _⟩ => before m c
    | ⟨_ + 1, _⟩ => after m c
  q _ := fullShare
  owed t := match t with
    | ⟨0, _⟩ => owed c
    | ⟨_ + 1, _⟩ => 0

abbrev 𝒱₀ : Variants := Variants.none

omit [FloatOps F] in
theorem fetch_x (t : Fin cfg0.N) : (cfg0.win (0 : Fin 2)).fetch t = true := by rw [show t = t0_0 from fin_N0 t]; rfl

/-! ## Whole-buffer accesses -/

abbrev rX : Rect S256x1024 := Rect.unit (s := S256x1024) ![0, 0] S256x1024.size inb_S256x1024_S256x1024_0_0
abbrev rK : Rect S256x8 := Rect.unit (s := S256x8) ![0, 0] S256x8.size inb_S256x8_S256x8_0_0

omit [FloatOps F] in
theorem off_zero : (![0, 0] : Fin 2 → Nat) = fun _ => 0 := funext fun a => by fin_cases a <;> rfl
omit [FloatOps F] in
theorem read_x (f : (cc0_stg0_0 : Ref sig .tc).ty.Contents (Elt F)) : (xM : Memref sig .tc .vmem S256x1024 .f32).view.readAt (Elt F) rX.toLoadRect f = f :=
  Memref.readAt_unit_zero (Elt F) cc0_stg0_0 off_zero _ f
omit [FloatOps F] in
theorem read_land (f : (cc0_scratch1 : Ref sig .tc).ty.Contents (Elt F)) : (landM : Memref sig .tc .vmem S256x8 .f32).view.readAt (Elt F) rK.toLoadRect f = f :=
  Memref.readAt_unit_zero (Elt F) cc0_scratch1 off_zero _ f
omit [FloatOps F] in
theorem write_cand (f w : (cc0_scratch0 : Ref sig .tc).ty.Contents (Elt F)) :
    ((candM : Memref sig .tc .vmem S256x8 .f32).access rK : View sig .tc _ _ _).write (Elt F) f w Finset.univ = w :=
  Memref.write_access_unit_zero_univ (Elt F) cc0_scratch0 off_zero _ f w
omit [FloatOps F] in
theorem write_out (f w : (cc0_stg1_0 : Ref sig .tc).ty.Contents (Elt F)) :
    ((oM : Memref sig .tc .vmem S256x8 .f32).access rK : View sig .tc _ _ _).write (Elt F) f w Finset.univ = w :=
  Memref.write_access_unit_zero_univ (Elt F) cc0_stg1_0 off_zero _ f w

/-! ## The run -/

section Run

variable (K : Dev nD × Fin 3 → ℕ)

/-- The copy of the candidates to the peer: its own send semaphore will give the candidate buffer back, the peer's receive
    semaphore will hand the peer its landing buffer with the candidates in it, and nothing more is owed. -/
theorem wp_copy (c n : Dev nD) (hn : n = peer c) {hsc : (landM : Memref sig (Dev.tc n : Thread nD τ).2.kind .vmem S256x8 .f32).view.ref.isScScratch = false}
    {hsrc : (candM : Memref sig .tc .vmem S256x8 .f32).view.WordExact} {hdst : (landM : Memref sig .tc .vmem S256x8 .f32).view.WordExact}
    {hsem : DmaTarget.Typed .vmem (.dma recvS) (.remote (Dev.tc n : Thread nD τ) (landM : Memref sig .tc .vmem S256x8 .f32) (.dma sendS) hsc)}
    {α : Type} {Q : α → sProp 𝕄} {k : PUnit → Prog (TpuEff nD τ sig (Elt F) Λ₀ .tc) α}
    (f : Buf (Elt F) ((landM : Memref sig .tc .vmem S256x8 .f32).view.loc (peer c : Thread nD τ))) (W : Waits sig Unit) :
    iprop(cellInv EX (sched m) (K (c, 1)) (sendCell c) ∗ cellInv EX (sched m) (K (peer c, 2)) (recvCell (peer c))
        ∗ candPts c (cand m c) ∗ landPts (peer c) f
        ∗ owes (c : Thread nD τ) (tallyAt (recvCell (peer c)) () N) W
        ∗ dutyTok EX (sendCell c) 0 () ∗ reached EX (sendCell c) 0
        ∗ dutyTok EX (recvCell (peer c)) 0 () ∗ reached EX (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma candM (.remote (Dev.tc n : Thread nD τ) landM (.dma sendS) hsc) (.dma recvS) hsrc hdst hsem) k) Q) := by
  subst hn
  unfold candPts landPts
  exact Rounds.wp_send_pointsTo 𝒱₀ EX (sched m) (c : Thread nD τ) none (κ₁ := K (c, 1)) (κ₂ := K (peer c, 2))
    (r₁ := 0) (r₂ := 0) (d₁ := ()) (d₂ := ()) (fd := f)
    (by rw [duties_send]; exact Finset.mem_singleton_self _) (by rw [duties_recv]; exact Finset.mem_singleton_self _)
    () () N rfl (amount_send m c) (amount_recv m (peer c)) 0 (by rw [zero_add]) (W := W)
    (by rw [payload_send]; exact BI.Entails.refl _)
    (by rw [payload_recv]; unfold recvPay landPts; rw [copied_eq (peer c), peer_peer])

/-- A staged buffer at contents equal to `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_eq_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

def buffersBefore (c : Dev nD) : sProp 𝕄 :=
  iprop((dats m 0 c).owesAt () t0_0.castSucc
    ∗ (∃ d, staged c cc0_stg0_0 ((dats m 0 c).before (0 : Fin 2) t0_0 d)) ∗ (∃ d, staged c cc0_stg1_0 ((dats m 0 c).before (1 : Fin 2) t0_0 d)))

def buffersAfter (c : Dev nD) : sProp 𝕄 :=
  iprop((dats m 0 c).owesAt () t0_0.succ ∗ staged c cc0_stg0_0 (xs m c) ∗ staged c cc0_stg1_0 (outAt m c))

abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3

set_option maxHeartbeats 1000000 in
set_option maxRecDepth 8192 in
/-- The body at device `c`, one rule per operation, in program order. -/
theorem body_run (c : Dev nD) (Kt : PUnit → sProp 𝕄) :
    iprop((ghost m K c ∗ cred (tallyAt (barCell c) () 1) ∗ cred (tallyAt (recvCell c) () N) ∗ levAts L lv
          ∗ (∃ f, candPts c f) ∗ ∃ f, landPts c f)
        ∗ buffersBefore m c ∗ ((after m c ∗ buffersAfter m c) -∗ Kt ⟨⟩))
      ⊢ wp frame (wpE (defs₀ (F := F)) 𝒱₀ c none) Set.univ (theBody (F := F)) Kt := by
  unfold theBody
  simp only [cc0_body_eq_skeleton, cc0_body_skel, k0_part1_eq_skeleton, k0_part1_skel, k0_part2_eq_skeleton, k0_part2_skel,
    k0_part3_eq_skeleton, k0_part3_skel, semSignalWord, semWaitWord, Prog.lift, Prog.bind_op, Prog.bind_ret, Prog.pure_eq_ret, wp_deviceId]
  unfold ghost invs marks places raises buffersBefore
  iintro ⟨⟨⟨⟨#HIbar, #HIsnd, #HIrcv, #HIbarP, #HIrcvP⟩, ⟨#HrBP, #HrS, #HrV⟩, ⟨HatB, HatS, HatV⟩, HtB, HtS, HtV⟩, HcB, HcV, #Hlev,
    ⟨%f0, Hcand⟩, ⟨%f1, Hland⟩⟩, ⟨Ho, ⟨%d0, %g0, %hg0, Hx⟩, ⟨%d1, %g1, %hg1, Hout⟩⟩, Hk⟩
  have hx : g0 = xs m c := by rw [hg0]; unfold Dat.before; rw [if_pos (fetch_x t0_0)]; rfl
  subst hx
  unfold Dat.owesAt Pipeline.owesWithin
  icases Ho with ⟨%W, %hW, HO⟩
  rw [show (dats m 0 c).owed t0_0.castSucc = owed c from rfl]
  simp only [dev1_eq c]
  unfold owed
  -- the signal to the peer, with the landing buffer
  iapply (Rounds.wp_signal 𝒱₀ EX (sched m) (c : Thread nD τ) none (dst := (peer c : Thread nD τ)) (κ := K (peer c, 0))
      (d := ()) (by rw [duties_bar]; exact Finset.mem_singleton_self _) ((amount_bar m (peer c)).trans (by decide)) () (tallyAt (recvCell (peer c)) () N) rfl)
    $$ [HO HtB Hland]
  · isplitr; · iexact HIbarP
    isplitl [HO]; · iexact HO
    isplitl [HtB]; · iexact HtB
    isplitl [Hland]
    · rw [payload_bar]; unfold barPay; rw [peer_peer]
      isplitl [Hland]; · iexists f1; iexact Hland
      iexact HrV
    · iexact HrBP
  iintro HO
  -- the block read, the candidates stored
  iapply (wp_load 𝒱₀ (c : Thread nD τ) none Set.univ (m := xM) (Finset.subset_univ _)) $$ Hx; iintro Hx
  rw [read_x, stored_eq]
  unfold candPts
  iapply (wp_load 𝒱₀ (c : Thread nD τ) none Set.univ (m := candM) (by rw [View.set_whole]; exact Finset.subset_univ _)) $$ Hcand; iintro Hcand
  iapply (wp_store 𝒱₀ (c : Thread nD τ) none Set.univ (m := candM) (r := rK) (Mk := Finset.univ) (by rw [View.set_whole]; exact Finset.subset_univ _)) $$ Hcand; iintro Hcand
  rw [write_cand]
  -- the wait on the own barrier: the peer's landing buffer comes with it
  iapply (Rounds.wp_wait_rest_token 𝒱₀ EX (sched m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq ((rest_of m _ (duties_bar m c)).trans (payload_bar m c))) $$ Hpay
  unfold barPay
  icases Hp with ⟨⟨%fn, HlandP⟩, #HrVP⟩
  -- the copy
  iapply (wp_copy m K c _ (dev2_eq c) fn (insert (SemLoc.reg barS, ()) W)) $$ [Hcand HlandP HO HtS HtV]
  · isplitr; · iexact HIsnd
    isplitr; · iexact HIrcvP
    isplitl [Hcand]; · unfold candPts cand; iexact Hcand
    isplitl [HlandP]; · iexact HlandP
    isplitl [HO]; · iexact HO
    isplitl [HtS]; · iexact HtS
    isplitr; · iexact HrS
    isplitl [HtV]; · iexact HtV
    iexact HrVP
  iintro ⟨HcS, HO⟩
  -- the wait for the peer's copy: the own landing buffer, with the peer's candidates
  iapply (Rounds.wp_wait_rest_token 𝒱₀ EX (sched m) (c : Thread nD τ) none (κ := K (c, 2))
      (wpE_waitDma2_eq 𝒱₀ (c : Thread nD τ) none Set.univ) (Set.mem_univ _) () (O := 0) (W := insert (SemLoc.reg barS, ()) W) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hland := (Entails.of_eq ((rest_of m _ (duties_recv m c)).trans (payload_recv m c))) $$ Hpay
  unfold recvPay landPts
  -- the merge
  iapply (wp_load 𝒱₀ (c : Thread nD τ) none Set.univ (m := landM) (by rw [View.set_whole]; exact Finset.subset_univ _)) $$ Hland; iintro Hland
  rw [read_land]
  iapply (wp_load 𝒱₀ (c : Thread nD τ) none Set.univ (m := oM) (Finset.subset_univ _)) $$ Hout; iintro Hout
  iapply (wp_store 𝒱₀ (c : Thread nD τ) none Set.univ (m := oM) (r := rK) (Mk := Finset.univ) (Finset.subset_univ _)) $$ Hout; iintro Hout
  rw [write_out]
  -- the wait for the own copy: the candidate buffer back
  iapply (Rounds.wp_wait_rest_token 𝒱₀ EX (sched m) (c : Thread nD τ) none (κ := K (c, 1))
      (wpE_waitDma2_eq 𝒱₀ (c : Thread nD τ) none Set.univ) (Set.mem_univ _) () (O := 0)
      (W := insert (SemLoc.dma recvS, ()) (insert (SemLoc.reg barS, ()) W)) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hcand := (Entails.of_eq ((rest_of m _ (duties_send m c)).trans (payload_send m c))) $$ Hpay
  unfold sendPay
  -- the three semaphores are done with
  imod (Rounds.cell_close EX (sched m) (Set.mem_univ (K (c, 1))) (fun h => h) (R := 0 + 1) (duties_later m (sendCell c))) $$ [HatS] with HzS
  · isplitr; · iexact HIsnd
    iexact HatS
  imod (Rounds.cell_close EX (sched m) (Set.mem_univ (K (c, 2))) (fun h => h) (R := 0 + 1) (duties_later m (recvCell c))) $$ [HatV] with HzV
  · isplitr; · iexact HIrcv
    iexact HatV
  imod (Rounds.cell_close EX (sched m) (Set.mem_univ (K (c, 0))) (fun h => h) (R := 0 + 1) (duties_later m (barCell c))) $$ [HatB] with HzB
  · isplitr; · iexact HIbar
    iexact HatB
  rw [wp_ret]; imodintro
  iapply Hk
  unfold after buffersAfter Dat.owesAt Pipeline.owesWithin
  rw [show (dats m 0 c).owed t0_0.succ = 0 from rfl]
  isplitl [Hcand Hland HzS HzV HzB]
  · isplitl [Hcand Hland]
    · isplitl [Hcand]; · iexact Hcand
      unfold landPts; iexact Hland
    isplitl [HzS]; · iexact HzS
    isplitl [HzV] <;> iassumption
  isplitl [HO]
  · iexists (insert (SemLoc.dma sendS, ()) (insert (SemLoc.dma recvS, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

end Run

set_option maxRecDepth 8192 in
/-- The body as the pipeline asks for it. -/
theorem body_obligation (c : Dev nD) : BodyObligation (dats (F := F) m 0 c) (defs₀ (F := F)) 𝒱₀ () Set.univ := fun t => by
  rw [show t = t0_0 from fin_N0 t]
  simp only [bigSep_W0]
  simp only [owns_eq_staged]
  show iprop(before m c ∗ buffersBefore m c) ⊢ wp frame (wpE (defs₀ (F := F)) 𝒱₀ c none) Set.univ (theBody (F := F)) (fun _ => iprop(after m c ∗ buffersAfter m c))
  unfold before start
  iintro ⟨⟨⟨⟨%K, Hg⟩, H1, H2, H3⟩, Hca, Hla⟩, Hb⟩
  iapply (body_run m K c fun _ => iprop(after m c ∗ buffersAfter m c))
  isplitr [Hb]
  · isplitl [Hg]; · iexact Hg
    isplitl [H1]; · iexact H1
    isplitl [H2]; · iexact H2
    isplitl [H3]; · iexact H3
    isplitl [Hca] <;> iassumption
  · isplitl [Hb]; · iexact Hb
    iintro H; iexact H

end Cert.Exchange

end
-- ==== Proof.Launch.lean ====
/-
# The launch: from zero semaphores to every device's start, and the run of @main

The three semaphores of every device are turned into the exchange's cells all at once (a device's barrier semaphore is
touched by its peer, so this cannot be done device by device), and the right to raise a semaphore is handed to the device
that raises it: its own send semaphore's to itself, the other two to the peer.
-/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

/-- The kernel's own semaphores: send and receive. (The barrier semaphore outlives the launch.) -/
abbrev osem : Fin 2 → SemLoc sig := fun | 0 => .dma sendS | 1 => .dma recvS

theorem ownSemFacts : Pipeline.OwnSemFacts cfg0.spec osem := by decide

theorem csem_injective : Function.Injective csem := by decide

theorem kcell_injective : Function.Injective (kcell : Dev nD × Fin 3 → GSem nD τ sig) := fun a b h =>
  Prod.ext (congrArg (fun g : GSem nD τ sig => g.1.1) h) (csem_injective (congrArg Prod.snd h))

/-- Every device's three semaphores, and the one raise of each. -/
def cells : Finset (GSem nD τ sig) := Finset.univ.map ⟨kcell, kcell_injective⟩
def tokens : Finset (GSem nD τ sig × ℕ × Unit) :=
  Finset.univ.map ⟨fun ck => (kcell ck, 0, ()), fun a b h => kcell_injective (congrArg Prod.fst h)⟩

def u₀ : UU := (initOf (Pipeline.cells cfgs cellOf_inj) (Pipeline.launchToks cfgs cellOf_inj), initOf cells tokens)

/-- What device `c` is dealt: for each of its semaphores the state at round 0, its place, the mark, and the raise. -/
def dealt (c : Dev nD) : sProp 𝕄 :=
  iprop((bigSep Finset.univ fun k : Fin 3 => roundState EX (sched m) (kcell (c, k)) 0)
    ∗ (bigSep Finset.univ fun k : Fin 3 => atPos EX (kcell (c, k)) 0 ∅ 0)
    ∗ (bigSep Finset.univ fun k : Fin 3 => reached EX (kcell (c, k)) 0)
    ∗ bigSep Finset.univ fun k : Fin 3 => dutyTok EX (kcell (c, k)) 0 ())

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

theorem deal : BI.own (EX (initOf cells tokens)) ⊢ (|==> bigSep Finset.univ (dealt m) : sProp 𝕄) := by
  have hC (Φ : GSem nD τ sig → sProp 𝕄) : bigSep cells Φ = bigSep Finset.univ fun c : Dev nD => bigSep Finset.univ fun k : Fin 3 => Φ (kcell (c, k)) := by
    unfold cells; rw [bigSep_map, bigSep_univ_prod]; rfl
  have hT : bigSep tokens (fun x => (dutyTok EX x.1 x.2.1 x.2.2 : sProp 𝕄))
      = bigSep Finset.univ fun c : Dev nD => bigSep Finset.univ fun k : Fin 3 => dutyTok EX (kcell (c, k)) 0 () := by
    unfold tokens; rw [bigSep_map, bigSep_univ_prod]; rfl
  iintro HX
  imod (Rounds.fund EX (sched m) cells tokens) $$ HX with ⟨Hst, Hr, Hat, Htok⟩
  imodintro
  ihave Hst := (Entails.of_eq (hC fun g => roundState EX (sched m) g 0)) $$ Hst
  ihave Hat := (Entails.of_eq (hC fun g => atPos EX g 0 ∅ 0)) $$ Hat
  ihave Hr := (Entails.of_eq (hC fun g => reached EX g 0)) $$ Hr
  ihave Htok := (Entails.of_eq hT) $$ Htok
  unfold dealt; simp only [bigSep_sep']
  isplitl [Hst]; · iexact Hst
  isplitl [Hat]; · iexact Hat
  isplitl [Hr] <;> iassumption

/-! ## The semaphores made into cells -/

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's three semaphores at zero and their states make its three cells, each under some name. -/
theorem make_cells (c : Dev nD) :
    iprop(Pipeline.ownSems0 (Ix := Unit) (Name := ℕ) (U := UU) (Lvl := ℕ) (Val := Elt F) (τ := τ) osem c ∗ unscopedSems0 c
        ∗ bigSep Finset.univ fun k : Fin 3 => roundState EX (sched m) (kcell (c, k)) 0)
      ⊢ (|={Set.univ}=> bigSep Finset.univ fun k => iprop(∃ κ : ℕ, cellInv EX (sched m) κ (kcell (c, k))) : sProp 𝕄) := by
  have halloc : iprop((bigSep Finset.univ fun k : Fin 3 => semVal (kcell (c, k)) 0) ∗ bigSep Finset.univ fun k : Fin 3 => roundState EX (sched m) (kcell (c, k)) 0)
      ⊢ (|={Set.univ}=> bigSep Finset.univ fun k => iprop(∃ κ : ℕ, cellInv EX (sched m) κ (kcell (c, k))) : sProp 𝕄) := by
    rw [← bigSep_sep']
    exact (bigSep_mono fun k _ => (Rounds.body_intro EX (sched m) (kcell (c, k))).trans inv_alloc).trans (bigSep_fupd _ _)
  rw [ownSems0_eq, unscopedSems0_eq]
  iintro ⟨⟨HS, HV⟩, HB, Hst⟩
  iapply halloc
  rw [bigSep_three fun k => semVal (kcell (c, k)) 0]
  isplitr [Hst]
  · isplitl [HB]; · iexact HB
    isplitl [HS] <;> iassumption
  · iexact Hst

/-- What every device may read of all cells. -/
def records (K : Dev nD × Fin 3 → ℕ) : sProp 𝕄 :=
  iprop((bigSep Finset.univ fun ck : Dev nD × Fin 3 => cellInv EX (sched m) (K ck) (kcell ck))
    ∗ bigSep Finset.univ fun ck : Dev nD × Fin 3 => reached EX (kcell ck) 0)

instance records_persistent (K : Dev nD × Fin 3 → ℕ) : BI.Persistent (records m K) := by unfold records; infer_instance

theorem records_inv (K : Dev nD × Fin 3 → ℕ) (ck : Dev nD × Fin 3) : records m K ⊢ cellInv EX (sched m) (K ck) (kcell ck) := by
  unfold records; iintro ⟨H, -⟩
  iapply (show (bigSep Finset.univ fun ck : Dev nD × Fin 3 => (cellInv EX (sched m) (K ck) (kcell ck) : sProp 𝕄)) ⊢ cellInv EX (sched m) (K ck) (kcell ck) from
    bigSep_elim (Finset.mem_univ ck))
  iexact H

theorem records_mark (K : Dev nD × Fin 3 → ℕ) (ck : Dev nD × Fin 3) : records m K ⊢ reached EX (kcell ck) 0 := by
  unfold records; iintro ⟨-, H⟩
  iapply (show (bigSep Finset.univ fun ck : Dev nD × Fin 3 => (reached EX (kcell ck) 0 : sProp 𝕄)) ⊢ reached EX (kcell ck) 0 from
    bigSep_elim (Finset.mem_univ ck))
  iexact H

/-- From the records, a device's places and the raises it makes, its ghost state. -/
theorem ghost_intro (K : Dev nD × Fin 3 → ℕ) (c : Dev nD) : iprop(records m K ∗ places c ∗ raises c) ⊢ iprop(∃ K, ghost m K c) := by
  unfold ghost invs marks
  iintro ⟨#HR, Hp, Hr⟩
  iexists K
  isplitr
  · isplitr; · iapply (records_inv m K (c, 0)); iexact HR
    isplitr; · iapply (records_inv m K (c, 1)); iexact HR
    isplitr; · iapply (records_inv m K (c, 2)); iexact HR
    isplitr; · iapply (records_inv m K (peer c, 0)); iexact HR
    iapply (records_inv m K (peer c, 2)); iexact HR
  isplitr
  · isplitr; · iapply (records_mark m K (peer c, 0)); iexact HR
    isplitr; · iapply (records_mark m K (c, 1)); iexact HR
    iapply (records_mark m K (c, 2)); iexact HR
  isplitl [Hp] <;> iassumption

omit [FloatOps F] in
/-- The raises handed out: the barrier's and the receive semaphore's to the peer. -/
theorem raises_out : (bigSep Finset.univ fun c : Dev nD => bigSep Finset.univ fun k : Fin 3 => (dutyTok EX (kcell (c, k)) 0 () : sProp 𝕄))
    ⊢ bigSep Finset.univ fun c : Dev nD => raises c := by
  unfold raises
  simp only [bigSep_three, bigSep_sep']
  rw [bigSep_univ_equiv swap (fun c : Dev nD => (dutyTok EX (kcell (c, 0)) 0 () : sProp 𝕄)),
    bigSep_univ_equiv swap (fun c : Dev nD => (dutyTok EX (kcell (c, 2)) 0 () : sProp 𝕄))]
  exact BI.Entails.refl _

/-- The devices' semaphores and what they were dealt, all at once, make every device's ghost state. -/
theorem set_up : (bigSep Finset.univ fun c =>
      iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ fun c => iprop(∃ K, ghost m K c) := by
  have hstep (c : Dev nD) :
      iprop(Pipeline.ownSems0 (Ix := Unit) (Name := ℕ) (U := UU) (Lvl := ℕ) (Val := Elt F) (τ := τ) osem c ∗ unscopedSems0 c ∗ dealt m c)
        ⊢ (|={Set.univ}=> iprop((bigSep Finset.univ fun k => iprop(∃ κ : ℕ, cellInv EX (sched m) κ (kcell (c, k))))
            ∗ (bigSep Finset.univ fun k : Fin 3 => atPos EX (kcell (c, k)) 0 ∅ 0)
            ∗ (bigSep Finset.univ fun k : Fin 3 => reached EX (kcell (c, k)) 0)
            ∗ bigSep Finset.univ fun k : Fin 3 => dutyTok EX (kcell (c, k)) 0 ()) : sProp 𝕄) := by
    unfold dealt
    iintro ⟨Hos, Hus, Hst, Hrest⟩
    imod (make_cells m c) $$ [Hos Hus Hst] with Hinv
    · isplitl [Hos]; · iexact Hos
      isplitl [Hus] <;> iassumption
    imodintro
    isplitl [Hinv] <;> iassumption
  have hgather : (bigSep Finset.univ fun c : Dev nD => iprop((bigSep Finset.univ fun k => iprop(∃ κ : ℕ, cellInv EX (sched m) κ (kcell (c, k))))
            ∗ (bigSep Finset.univ fun k : Fin 3 => atPos EX (kcell (c, k)) 0 ∅ 0)
            ∗ (bigSep Finset.univ fun k : Fin 3 => reached EX (kcell (c, k)) 0)
            ∗ bigSep Finset.univ fun k : Fin 3 => dutyTok EX (kcell (c, k)) 0 ()) : sProp 𝕄)
      ⊢ bigSep Finset.univ fun c => iprop(∃ K, ghost m K c) := by
    rw [bigSep_sep', bigSep_sep', bigSep_sep', ← bigSep_univ_prod (fun ck : Dev nD × Fin 3 => iprop(∃ κ : ℕ, cellInv EX (sched m) κ (kcell ck))),
      ← bigSep_univ_prod (fun ck : Dev nD × Fin 3 => (reached EX (kcell ck) 0 : sProp 𝕄))]
    iintro ⟨HI, Hat, #HR, Htok⟩
    ihave HK := (BI.bigSep_exists_pi Finset.univ (fun (ck : Dev nD × Fin 3) (κ : ℕ) => (cellInv EX (sched m) κ (kcell ck) : sProp 𝕄))) $$ HI
    icases HK with ⟨%K, #HI⟩
    ihave Htok := (raises_out (F := F)) $$ Htok
    have hdist : iprop(records m K ∗ bigSep Finset.univ fun c => iprop(places c ∗ raises c)) ⊢ bigSep Finset.univ fun c => iprop(∃ K, ghost m K c) :=
      (sep_mono_left (BI.bigSep_of_persistent Finset.univ (records m K))).trans (by rw [← bigSep_sep']; exact bigSep_mono fun c _ => ghost_intro m K c)
    have hplaces : (bigSep Finset.univ fun c : Dev nD => bigSep Finset.univ fun k : Fin 3 => (atPos EX (kcell (c, k)) 0 ∅ 0 : sProp 𝕄)) ⊢ bigSep Finset.univ fun c => places c :=
      bigSep_mono fun c _ => show _ ⊢ places c from Entails.of_eq (by unfold places; rw [bigSep_three])
    iapply hdist
    isplitr
    · unfold records; isplitl; · iexact HI
      iexact HR
    · rw [bigSep_sep']
      isplitl [Hat]
      · iapply hplaces; iexact Hat
      · iexact Htok
  exact ((bigSep_mono fun c _ => hstep c).trans (bigSep_fupd _ _)).trans (BI.fupd_mono hgather)

/-! ## The theorem's side conditions -/

omit [FloatOps F] in
/-- The credit a device holds at launch: what its peer owes it. -/
theorem credits (c : Dev nD) :
    (Pipeline.launchCred owed c : sProp 𝕄) ⊢ iprop(cred (tallyAt (barCell c) () 1) ∗ cred (tallyAt (recvCell c) () N)) := by
  rw [show (owed : Dev nD → CellTallies nD τ sig Unit) = fun d => tallyAt (recvCell (peer d)) () N + tallyAt (barCell (peer d)) () 1 from rfl,
    Pipeline.launchCred_add]
  iintro ⟨HV, HB⟩
  isplitl [HB]
  · iapply (Pipeline.launchCred_tallyAt (.reg barS) peer peer peer_peer peer_peer () 1 c); iexact HB
  · iapply (Pipeline.launchCred_tallyAt (.dma recvS) peer peer peer_peer peer_peer () N c); iexact HV

theorem start_intro (c : Dev nD) :
    iprop(Pipeline.unscopedRestP Pipeline.Prefetch.none cfg0.spec c (fun b => m ((c : Thread nD τ).loc b)) ∗ levAts L lv
        ∗ Pipeline.launchCred owed c ∗ prngReg c (ρ c) ∗ ∃ K, ghost m K c)
      ⊢ |={Set.univ}=> iprop(start m c ∗ emp) := by
  iintro ⟨-, Hlev, Hcr, -, HG⟩
  ihave Hc := (credits (F := F) c) $$ Hcr
  icases Hc with ⟨H1, HN⟩
  imodintro
  unfold start
  isplitl
  · isplitl [HG]; · iexact HG
    isplitl [H1]; · iexact H1
    isplitl [HN]; · iexact HN
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, ⟨%f, Hf⟩, ⟨%g, Hg⟩⟩
  isplitl [Hs]; · iexact Hs
  isplitl [Hf]
  · iexists f; rw [candPts_eq]; iexact Hf
  · iexists g; rw [landPts_eq]; iexact Hg

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after m c from rfl, scopedRest0_eq, ownSems0_eq, unscopedSems0_eq]
  unfold after
  rw [candPts_eq, landPts_eq]
  iintro ⟨⟨Hf, Hg⟩, HS, HV, HB⟩
  isplitl [HB]; · iexact HB
  isplitl [HS HV]
  · isplitl [HS] <;> iassumption
  isplitl [Hf]
  · iexists _; iexact Hf
  · iexists _; iexact Hg

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

set_option maxRecDepth 8192 in
/-- For any float values, from any memory with every semaphore at zero: every fair execution of @main on the eight devices
    ends, with every array of every device as the pipeline's data says and every semaphore at zero. -/
theorem run_arrays : θ_run defs (onTc (τ := τ) (main (F := F))) ⟨m, fun _ => 0, ρ⟩ fun r =>
    (∀ c : Dev nD, ∀ w : Fin cfg0.W, r.2.mem ((cfg0.win w).arr.view.loc (c : Thread nD τ)) = (dats m 0 c).arrAt w cfg0.N) ∧ r.2.sem = fun _ => 0 :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0)
    (hshare := fun c w => by unfold Dat.share; split <;> rfl)
    (hdistinct := winFacts0.arr_inj)
    (O₀ := owed) (howed₀ := fun _ => rfl) (howedN := fun _ => rfl)
    (L := L) (lv := lv) (hL := L_of_ne) (hwaits := waits m)
    (G := dealt m) (G' := fun c => iprop(∃ K, ghost m K c)) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := set_up m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The one block of an array read as that array: the staged block is device `c`'s whole `x`, -/
theorem xs_eq (c : Dev nD) : xs m c = m ((c : Thread nD τ).loc main_arg0) :=
  Memref.read_access_unit_zero (Elt F) main_arg0 (funext fun a => by fin_cases a <;> decide) (fun a => by fin_cases a <;> decide) _

/-- and the result array ends at what the body left staged. -/
theorem result_eq (c : Dev nD) : (dats m 0 c).arrAt (1 : Fin 2) cfg0.N = outAt m c := by
  have hread : (win0_1.blk (0 : Fin 1)).view.read (Elt F) ((dats m 0 c).arrAt (1 : Fin 2) cfg0.N) = outAt m c := by
    rw [show cfg0.N = ((0 : Fin 1) : Fin cfg0.N).val + 1 from rfl, (dats m 0 c).arrAt_succ (1 : Fin 2) (0 : Fin 1)]
    rw [show (cfg0.win (1 : Fin 2)).flush (0 : Fin 1) = true from by decide, if_pos rfl]
    exact View.read_write_univ _ _
  exact (Memref.read_access_unit_zero (Elt F) main_v1 (funext fun a => by fin_cases a <;> decide) (fun a => by fin_cases a <;> decide) _).symm.trans hread

/-- The run of @main in full: device `c`'s result is the merge of its own candidates and its peer's, its `x` is unchanged,
    and every semaphore is at zero. -/
theorem run_main : θ_run defs (onTc (τ := τ) (main (F := F))) ⟨m, fun _ => 0, ρ⟩ fun r =>
    (∀ c : Dev nD, r.2.mem ((c : Thread nD τ).loc main_v1)
          = mergeOf (candOf (m ((c : Thread nD τ).loc main_arg0))) (candOf (m ((peer c : Thread nD τ).loc main_arg0)))
        ∧ r.2.mem ((c : Thread nD τ).loc main_arg0) = m ((c : Thread nD τ).loc main_arg0))
      ∧ r.2.sem = fun _ => 0 :=
  (θ_run defs _ _).mono (fun r h => ⟨fun c => ⟨by
      refine (h.1 c (1 : Fin 2)).trans ((result_eq m c).trans ?_)
      unfold outAt cand
      rw [xs_eq, xs_eq], (h.1 c (0 : Fin 2)).trans ((dats (F := F) m 0 c).arrAt_in (0 : Fin 2) rfl _)⟩, h.2⟩) (run_arrays m ρ)

end Cert.Exchange

end
-- ==== Proof.Rounds8.lean ====
/- The arithmetic of "take the greatest value, then remove it", over extended reals, with no program in sight.
   One ROUND on a family of values takes its maximum and replaces every entry equal to that maximum by a floor `N`. The
   claim of this module is what round `k` takes: the value that has exactly `k` different greater values, provided it is
   at least the floor; and that taking the first eight of each of two families and then doing the rounds on those sixteen
   values gives the same as the whole. -/
module

public import Mathlib.Data.EReal.Basic
public import Mathlib.Data.Finset.Lattice.Fold
public import Mathlib.Data.Finset.Card
public import Mathlib.Data.Fintype.Basic
public import Mathlib.Logic.Function.Iterate
public import Mathlib.Order.Interval.Finset.Fin

@[expose] public section

noncomputable section

namespace Cert.Rounds8

open Finset

section family
variable {ι : Type} [Fintype ι]

/-- The greatest value of a family. -/
def greatest (v : ι → EReal) : EReal := univ.sup v

/-- The family after its greatest value is replaced, wherever it stands, by `N`. -/
def removed (N : EReal) (v : ι → EReal) : ι → EReal := fun i => if v i = greatest v then N else v i

/-- What round `k` takes (rounds are counted from zero). -/
def taken (N : EReal) (v : ι → EReal) (k : Nat) : EReal := greatest ((removed N)^[k] v)

/-- The different values of the family greater than `u`. -/
def above (v : ι → EReal) (u : EReal) : Finset EReal := (univ.image v).filter (u < ·)

variable {N u : EReal} {v : ι → EReal}

theorem mem_above {y : EReal} : y ∈ above v u ↔ (∃ i, v i = y) ∧ u < y := by simp [above]

theorem le_greatest (v : ι → EReal) (i : ι) : v i ≤ greatest v := le_sup (mem_univ i)

theorem exists_greatest [Nonempty ι] (v : ι → EReal) : ∃ i, v i = greatest v := by
  obtain ⟨i, _, h⟩ := exists_mem_eq_sup univ univ_nonempty v
  exact ⟨i, h.symm⟩

/-- A round removes the greatest value from those above `u`, and no other, when the floor is not above `u`. -/
theorem above_removed (hN : N ≤ u) : above (removed N v) u = (above v u).erase (greatest v) := by
  ext y
  rw [mem_erase, mem_above, mem_above]
  constructor
  · rintro ⟨⟨i, rfl⟩, hu⟩
    unfold removed at hu ⊢
    split_ifs at hu ⊢ with h
    · exact absurd hu (not_lt.2 hN)
    · exact ⟨h, ⟨i, rfl⟩, hu⟩
  · rintro ⟨hne, ⟨i, rfl⟩, hu⟩
    exact ⟨⟨i, if_neg hne⟩, hu⟩

/-- ROUND `k` TAKES the value that `k` different values exceed, if it is at least the floor. -/
theorem taken_eq (hN : N ≤ u) : ∀ (k : Nat) (v : ι → EReal), (∃ i, v i = u) → (above v u).card = k → taken N v k = u := by
  intro k
  induction k with
  | zero =>
    rintro v ⟨i, rfl⟩ h0
    refine le_antisymm (Finset.sup_le fun i' _ => not_lt.1 fun hlt => ?_) (le_greatest v i)
    exact absurd (mem_above.2 ⟨⟨i', rfl⟩, hlt⟩ : v i' ∈ above v (v i)) (by rw [card_eq_zero.1 h0]; exact notMem_empty _)
  | succ k ih =>
    rintro v ⟨i, hi⟩ hk
    have : Nonempty ι := ⟨i⟩
    obtain ⟨y, hy⟩ := card_pos.1 (by omega : 0 < (above v u).card)
    obtain ⟨⟨i', rfl⟩, hlt⟩ := mem_above.1 hy
    have hg : u < greatest v := lt_of_lt_of_le hlt (le_greatest v i')
    have hmem : greatest v ∈ above v u := mem_above.2 ⟨exists_greatest v, hg⟩
    refine ih (removed N v) ⟨i, ?_⟩ ?_
    · rw [removed, if_neg (by rw [hi]; exact hg.ne), hi]
    · rw [above_removed hN, card_erase_of_mem hmem, hk]; rfl

/-- Whatever a round takes is a value of the family, or the floor. -/
theorem taken_mem [Nonempty ι] (N : EReal) (v : ι → EReal) (k : Nat) : (∃ i, v i = taken N v k) ∨ taken N v k = N := by
  have key : ∀ (k : Nat) (i : ι), (∃ i', v i' = ((removed N)^[k] v) i) ∨ ((removed N)^[k] v) i = N := by
    intro k
    induction k with
    | zero => exact fun i => .inl ⟨i, rfl⟩
    | succ k ih =>
      intro i
      rw [Function.iterate_succ_apply']
      unfold removed
      split_ifs with h
      · exact .inr rfl
      · exact ih i
  obtain ⟨i, hi⟩ := exists_greatest ((removed N)^[k] v)
  unfold taken
  rw [← hi]
  exact key k i

/-- Two families with the same values from `u` up have the same values above `u`. -/
theorem above_congr {κ : Type} [Fintype κ] {w : κ → EReal} (h : ∀ y, u ≤ y → ((∃ i, v i = y) ↔ ∃ i, w i = y)) :
    above v u = above w u := by
  ext y
  rw [mem_above, mem_above]
  exact ⟨fun hy => ⟨(h y hy.2.le).1 hy.1, hy.2⟩, fun hy => ⟨(h y hy.2.le).2 hy.1, hy.2⟩⟩

/-- A value of one part of a family, at least `u`, is among the first `K` taken from that part when fewer than `K` values of
    the whole family are above `u`. -/
theorem taken_of_part {κ : Type} [Fintype κ] {a : κ → EReal} (ha : ∀ i, ∃ i', v i' = a i) (hN : N ≤ u) {K : Nat}
    (hK : (above v u).card < K) {y : EReal} (hy : ∃ i, a i = y) (huy : u ≤ y) : ∃ k : Fin K, taken N a k = y := by
  have hsub : above a y ⊆ above v u := fun z hz => by
    obtain ⟨⟨i, rfl⟩, hlt⟩ := mem_above.1 hz
    exact mem_above.2 ⟨ha i, lt_of_le_of_lt huy hlt⟩
  exact ⟨⟨(above a y).card, lt_of_le_of_lt (card_le_card hsub) hK⟩, taken_eq (hN.trans huy) _ a hy rfl⟩

/-- TWO STAGES ARE ONE: a family `v` whose values are those of two parts `a` and `b`, and a family `w` whose values are the
    first `K` taken from each part. A value `u` of `v`, at least the floor, with `j < K` different values above it in `v`, is what round `j` on
    `w` takes. -/
theorem taken_two_stages {κ κ' ω : Type} [Fintype κ] [Fintype κ'] [Fintype ω] [Nonempty κ] [Nonempty κ'] {a : κ → EReal} {b : κ' → EReal}
    {w : ω → EReal} {K j : Nat}
    (hv : ∀ y, (∃ i, v i = y) ↔ (∃ i, a i = y) ∨ ∃ i, b i = y)
    (hw : ∀ y, (∃ i, w i = y) ↔ (∃ k : Fin K, taken N a k = y) ∨ ∃ k : Fin K, taken N b k = y)
    (hN : N ≤ u) (hu : ∃ i, v i = u) (hj : (above v u).card = j) (hjK : j < K) : taken N w j = u := by
  have hfloor : ∀ y, y = N → u ≤ y → ∃ i, v i = y := fun y hy huy => by
    rw [show y = u from le_antisymm (hy.le.trans hN) huy]; exact hu
  have hsame : ∀ y, u ≤ y → ((∃ i, v i = y) ↔ ∃ i, w i = y) := fun y huy => by
    rw [hw]
    constructor
    · exact fun h => ((hv y).1 h).imp
        (fun h => taken_of_part (fun i => (hv _).2 (.inl ⟨i, rfl⟩)) hN (hj.symm ▸ hjK) h huy)
        (fun h => taken_of_part (fun i => (hv _).2 (.inr ⟨i, rfl⟩)) hN (hj.symm ▸ hjK) h huy)
    · rintro (⟨k, rfl⟩ | ⟨k, rfl⟩)
      · exact (taken_mem N a k).elim (fun h => (hv _).2 (.inl h)) (fun h => hfloor _ h huy)
      · exact (taken_mem N b k).elim (fun h => (hv _).2 (.inr h)) (fun h => hfloor _ h huy)
  exact taken_eq hN j w ((hsame u le_rfl).1 hu) (by rw [← above_congr hsame, hj])

end family

/-- A row in descending order, through a rearrangement `σ` that reaches every position: if its first `j + 1` values fall strictly, exactly `j`
    different values are above the one at `j`. -/
theorem card_above_sorted {n : Nat} {x : Fin n → EReal} {σ : Fin n → Fin n} (hσ : Function.Surjective σ)
    (hs : ∀ i j : Fin n, i < j → x (σ j) ≤ x (σ i)) (j : Fin n)
    (hlt : ∀ i k : Fin n, i < k → k ≤ j → x (σ k) < x (σ i)) : (above x (x (σ j))).card = j.val := by
  have h : above x (x (σ j)) = (univ.filter (· < j)).image fun i => x (σ i) := by
    ext y
    rw [mem_above, mem_image]
    constructor
    · rintro ⟨⟨i, rfl⟩, hy⟩
      obtain ⟨k, rfl⟩ := hσ i
      refine ⟨k, mem_filter.2 ⟨mem_univ k, not_le.1 fun hjk => ?_⟩, rfl⟩
      rcases hjk.eq_or_lt with rfl | hjk
      · exact lt_irrefl _ hy
      · exact absurd hy (not_lt.2 (hs j k hjk))
    · rintro ⟨i, hi, rfl⟩
      exact ⟨⟨σ i, rfl⟩, hlt i j (mem_filter.1 hi).2 le_rfl⟩
  rw [h, card_image_of_injOn]
  · rw [show (univ.filter (· < j)) = Iio j by ext i; simp, Fin.card_Iio]
  · intro i hi k hk hik
    have hi' : i < j := (mem_filter.1 hi).2
    have hk' : k < j := (mem_filter.1 hk).2
    rcases lt_trichotomy i k with hlt' | heq | hgt
    · exact absurd hik (hlt i k hlt' hk'.le).ne'
    · exact heq
    · exact absurd hik (hlt k i hgt hi'.le).ne

end Cert.Rounds8

end
-- ==== Proof.KernelRow.lean ====
/- What the kernel's stored values are, row by row, over extended reals. The body keeps, at each of its two stages, a
   matrix of values per row and repeats one pair of steps eight times: the column of row maxima, then the matrix with every
   entry equal to its row's maximum replaced by the least finite f32. Both steps are read here once, for any number of
   columns, as a round of `Rounds8`; the two stages are then the first eight columns they take. -/
module

public import proofs.«01_k».proof.Proof.Protocol
public import proofs.«01_k».proof.Proof.Rounds8
public import Idealize.ShloMosaic.PureOps.Ideal
public import Idealize.ShloMosaic.PureOps.Ideal.Laws
public import Idealize.ShloMosaic.Lib.Pointwise

@[expose] public section

set_option maxRecDepth 16384

noncomputable section

namespace Cert.KernelRow

open Cert.KernelIdeal Cert.KernelIdeal.Gen Cert.Exchange Cert.Rounds8 Idealize.ShloMosaic

/-- The least finite f32, as an extended real: what the kernel writes over a removed entry. -/
abbrev floor : EReal := (FloatOps.ofBits .f32 0xFF7FFFFF#32 : Ideal .f32)

abbrev Mat (n : Nat) : Shape := ⟨2, ![256, n]⟩

section step
variable {n : Nat} (hr : (Mat n).Reduces [1] S256) (hb : S256x1.Broadcasts (Mat n))

/-- The column of row maxima, -/
def col (v : FVec Ideal (Mat n) .f32) : FVec Ideal S256x1 .f32 :=
  shapeCast S256x1 (multiReduction .maximumf [1] S256 v 0xFF800000#32 hr (.inl rfl) rfl) shapeCasts_S256_S256x1

/-- and the matrix with those maxima overwritten. -/
def clear (v : FVec Ideal (Mat n) .f32) : FVec Ideal (Mat n) .f32 :=
  select (cmpf .oeq v (broadcastTo (Mat n) (col hr v) hb)) (broadcast (Mat n) (Scalar.ofBits .f32 0xFF7FFFFF#32)) v

/-- Row `r` of a matrix. -/
def row (v : FVec Ideal (Mat n) .f32) (r : Fin 256) : Fin n → EReal := fun k => v (ix2 r k)

theorem ofBits_negInf : (FloatOps.ofBits .f32 0xFF800000#32 : Ideal .f32) = (⊥ : EReal) := by
  show Ideal.ofBits .f32 0xFF800000#32 = ⊥
  simp [Ideal.ofBits, Ideal.ieee]

theorem col_apply (v : FVec Ideal (Mat n) .f32) (r : Fin 256) (c : Fin 1) : col hr v (ix2 r c) = greatest (row v r) := by
  pointwise [col]
  rw [show Ideal.ofBits .f32 0xFF800000#32 = (⊥ : EReal) from ofBits_negInf]
  rfl

theorem row_clear (v : FVec Ideal (Mat n) .f32) (r : Fin 256) : row (clear hr hb v) r = removed floor (row v r) := by
  funext k
  pointwise [row, clear]
  rw [col_apply]
  rfl

theorem row_iterate (v : FVec Ideal (Mat n) .f32) (r : Fin 256) (k : Nat) :
    row ((clear hr hb)^[k] v) r = (removed floor)^[k] (row v r) := by
  induction k generalizing v with
  | zero => rfl
  | succ k ih => rw [Function.iterate_succ_apply, ih, row_clear, Function.iterate_succ_apply]

/-- Column `k` of the eight a stage takes: round `k`, on every row. -/
theorem col_iterate (v : FVec Ideal (Mat n) .f32) (r : Fin 256) (c : Fin 1) (k : Nat) :
    col hr ((clear hr hb)^[k] v) (ix2 r c) = taken floor (row v r) k := by
  rw [col_apply, row_iterate hr hb]; rfl

end step

/-- Eight columns side by side, read at an entry. -/
theorem eight_apply {α : Type} (f : Fin 8 → S256x1.Idx → α)
    (h : Shape.Concatenates [S256x1, S256x1, S256x1, S256x1, S256x1, S256x1, S256x1, S256x1] S256x8 1) (r : Fin 256) (k : Fin 8) :
    concatenate S256x8 1 [⟨S256x1, f 0⟩, ⟨S256x1, f 1⟩, ⟨S256x1, f 2⟩, ⟨S256x1, f 3⟩, ⟨S256x1, f 4⟩, ⟨S256x1, f 5⟩, ⟨S256x1, f 6⟩, ⟨S256x1, f 7⟩] h
      (ix2 r k) = f k (ix2 r 0) :=
  concatenate_ofFn_unit_apply (t := S256x8) (s₁ := S256x1) 1 f h rfl rfl (ix2 r k) k rfl (ix2 r 0) (fun b hb => by fin_cases b <;> [rfl; exact absurd rfl hb])

/-- Two blocks of candidates side by side. -/
def pair (v w : FVec Ideal S256x8 .f32) : FVec Ideal S256x16 .f32 := k0_pay11 (F := Ideal) v w

/-- The values of a row of the pair are those of the two rows. -/
theorem row_pair (v w : FVec Ideal S256x8 .f32) (r : Fin 256) (y : EReal) :
    (∃ i, row (n := 16) (pair v w) r i = y) ↔ (∃ k : Fin 8, v (ix2 r k) = y) ∨ ∃ k : Fin 8, w (ix2 r k) = y := by
  have hl : ∀ k : Fin 8, row (n := 16) (pair v w) r (k.castLE (by decide)) = v (ix2 r k) := fun k =>
    concatenate_pair_apply_left (t := S256x16) 1 v w concatenates_S256x8_S256x8_S256x16_d1 _ rfl (ix2 r k) (fun b => by fin_cases b <;> rfl)
  have hrr : ∀ k : Fin 8, row (n := 16) (pair v w) r (k.natAdd 8) = w (ix2 r k) := fun k =>
    concatenate_pair_apply_right (t := S256x16) 1 v w concatenates_S256x8_S256x8_S256x16_d1 _ rfl rfl (ix2 r k) (fun b hb => by fin_cases b <;> [rfl; exact absurd rfl hb])
      (Nat.add_comm _ _)
  constructor
  · rintro ⟨i, rfl⟩
    induction i using Fin.addCases (m := 8) (n := 8) with
    | left k => exact .inl ⟨k, (hl k).symm⟩
    | right k => exact .inr ⟨k, (hrr k).symm⟩
  · rintro (⟨k, rfl⟩ | ⟨k, rfl⟩)
    · exact ⟨_, hl k⟩
    · exact ⟨_, hrr k⟩

section stages

/-- The eight columns a stage over the matrix `v` leaves side by side. -/
def eight {n : Nat} (hr : (Mat n).Reduces [1] S256) (hb : S256x1.Broadcasts (Mat n)) (v : FVec Ideal (Mat n) .f32) : FVec Ideal S256x8 .f32 :=
  let c (k : Nat) := col hr ((clear hr hb)^[k] v)
  concatenate S256x8 1 [⟨S256x1, c 0⟩, ⟨S256x1, c 1⟩, ⟨S256x1, c 2⟩, ⟨S256x1, c 3⟩, ⟨S256x1, c 4⟩, ⟨S256x1, c 5⟩, ⟨S256x1, c 6⟩, ⟨S256x1, c 7⟩]
    concatenates_S256x1_S256x1_S256x1_S256x1_S256x1_S256x1_S256x1_S256x1_S256x8_d1

theorem eight_taken {n : Nat} (hr : (Mat n).Reduces [1] S256) (hb : S256x1.Broadcasts (Mat n)) (v : FVec Ideal (Mat n) .f32) (r : Fin 256) (k : Fin 8) :
    eight hr hb v (ix2 r k) = taken floor (row v r) k :=
  (eight_apply (fun k => col hr ((clear hr hb)^[k.val] v)) concatenates_S256x1_S256x1_S256x1_S256x1_S256x1_S256x1_S256x1_S256x1_S256x8_d1 r k).trans
    (col_iterate hr hb v r 0 k.val)

abbrev r1 := reduces_S256x1024_S256
abbrev b1 := broadcasts_S256x1_S256x1024
abbrev r2 := reduces_S256x16_S256
abbrev b2 := broadcasts_S256x1_S256x16

variable (x : FVec Ideal S256x1024 .f32)

theorem pay2_eq : k0_pay2 (F := Ideal) x = x := shapeCast_self x _
theorem pay3_eq : k0_pay3 (F := Ideal) x = col r1 (k0_pay2 (F := Ideal) x) := rfl
theorem pay4_eq : k0_pay4 (F := Ideal) x = clear r1 b1 (k0_pay2 (F := Ideal) x) := rfl
theorem pay5_eq : k0_pay5 (F := Ideal) x = col r1 (k0_pay4 (F := Ideal) x) := rfl
theorem pay6_eq : k0_pay6 (F := Ideal) x = clear r1 b1 (k0_pay4 (F := Ideal) x) := rfl
theorem pay7_eq : k0_pay7 (F := Ideal) x = col r1 (k0_pay6 (F := Ideal) x) := rfl
theorem pay8_eq : k0_pay8 (F := Ideal) x = clear r1 b1 (k0_pay6 (F := Ideal) x) := rfl
theorem pay9_eq (c0 c1 c2 : FVec Ideal S256x1 .f32) (v : FVec Ideal S256x1024 .f32) :
    k0_pay9 (F := Ideal) c0 c1 c2 v = concatenate S256x8 1 [⟨S256x1, c0⟩, ⟨S256x1, c1⟩, ⟨S256x1, c2⟩, ⟨S256x1, col r1 v⟩,
        ⟨S256x1, col r1 (clear r1 b1 v)⟩, ⟨S256x1, col r1 (clear r1 b1 (clear r1 b1 v))⟩, ⟨S256x1, col r1 (clear r1 b1 (clear r1 b1 (clear r1 b1 v)))⟩,
        ⟨S256x1, col r1 (clear r1 b1 (clear r1 b1 (clear r1 b1 (clear r1 b1 v))))⟩]
      concatenates_S256x1_S256x1_S256x1_S256x1_S256x1_S256x1_S256x1_S256x1_S256x8_d1 := rfl

/-- THE FIRST STAGE: entry `(r, k)` of a block's candidates is what round `k` takes from the block's row `r`. -/
theorem candOf_apply (r : Fin 256) (k : Fin 8) : candOf (F := Ideal) x (ix2 r k) = taken floor (row x r) k := by
  rw [← eight_taken r1 b1, candOf, pay9_eq, pay8_eq, pay7_eq, pay6_eq, pay5_eq, pay4_eq, pay3_eq, pay2_eq]
  simp only [eight, Function.iterate_succ, Function.iterate_zero, Function.comp_apply, id_eq]

variable (v w : FVec Ideal S256x8 .f32)

theorem pay12_eq : k0_pay12 (F := Ideal) v w = col r2 (k0_pay11 (F := Ideal) v w) := rfl
theorem pay13_eq : k0_pay13 (F := Ideal) v w = clear r2 b2 (k0_pay11 (F := Ideal) v w) := rfl
theorem pay14_eq : k0_pay14 (F := Ideal) v w = col r2 (k0_pay13 (F := Ideal) v w) := rfl
theorem pay15_eq : k0_pay15 (F := Ideal) v w = clear r2 b2 (k0_pay13 (F := Ideal) v w) := rfl
theorem pay16_eq : k0_pay16 (F := Ideal) v w = col r2 (k0_pay15 (F := Ideal) v w) := rfl
theorem pay17_eq : k0_pay17 (F := Ideal) v w = clear r2 b2 (k0_pay15 (F := Ideal) v w) := rfl
theorem pay18_eq : k0_pay18 (F := Ideal) v w = col r2 (k0_pay17 (F := Ideal) v w) := rfl
theorem pay19_eq : k0_pay19 (F := Ideal) v w = clear r2 b2 (k0_pay17 (F := Ideal) v w) := rfl
theorem pay20_eq : k0_pay20 (F := Ideal) v w = col r2 (k0_pay19 (F := Ideal) v w) := rfl
theorem pay21_eq : k0_pay21 (F := Ideal) v w = clear r2 b2 (k0_pay19 (F := Ideal) v w) := rfl
theorem pay22_eq : k0_pay22 (F := Ideal) v w = col r2 (k0_pay21 (F := Ideal) v w) := rfl
theorem pay23_eq : k0_pay23 (F := Ideal) v w = clear r2 b2 (k0_pay21 (F := Ideal) v w) := rfl
theorem pay1_eq (c0 c1 c2 c3 c4 c5 : FVec Ideal S256x1 .f32) :
    k0_pay1 (F := Ideal) c0 c1 c2 c3 c4 c5 (k0_pay23 (F := Ideal) v w) (k0_pay24 (F := Ideal) v w)
      = concatenate S256x8 1 [⟨S256x1, c0⟩, ⟨S256x1, c1⟩, ⟨S256x1, c2⟩, ⟨S256x1, c3⟩, ⟨S256x1, c4⟩, ⟨S256x1, c5⟩,
          ⟨S256x1, col r2 (k0_pay23 (F := Ideal) v w)⟩, ⟨S256x1, col r2 (clear r2 b2 (k0_pay23 (F := Ideal) v w))⟩]
        concatenates_S256x1_S256x1_S256x1_S256x1_S256x1_S256x1_S256x1_S256x1_S256x8_d1 := rfl

/-- THE SECOND STAGE: entry `(r, j)` of the result is what round `j` takes from the sixteen candidates of row `r`. -/
theorem mergeOf_apply (r : Fin 256) (j : Fin 8) :
    mergeOf (F := Ideal) v w (ix2 r j) = taken floor (row (n := 16) (pair v w) r) j := by
  rw [← eight_taken r2 b2, mergeOf, pay1_eq, pay23_eq, pay22_eq, pay21_eq, pay20_eq, pay19_eq, pay18_eq, pay17_eq, pay16_eq,
    pay15_eq, pay14_eq, pay13_eq, pay12_eq]
  simp only [eight, pair, Function.iterate_succ, Function.iterate_zero, Function.comp_apply, id_eq]

end stages

end Cert.KernelRow

end
-- ==== Proof.ReferenceRow.lean ====
/- What the reference's result is, row by row, over extended reals: a rearrangement `σ` of the row's positions puts the row
   in descending order, and entry `(r, k)` of the result is the row's value at `σ k`. The rearrangement is the one the
   reference's argsort of the negated row finds; the lookup that follows is in range, so neither its wrapping of negative
   positions nor its fill value plays a part. -/
module

public import proofs.«01_k».proof.On_no_tie_so_far
public import proofs.«01_k».proof.Proof.Gen.On_no_tie_so_far
public import Idealize.ShloMosaic.PureOps.Ideal
public import Idealize.ShloMosaic.PureOps.Ideal.Laws
public import Idealize.ShloMosaic.Lib.Pointwise
public import Idealize.ShloMosaic.Lib.SortFacts
public import Idealize.ShloMosaic.Lib.WordCmp
public import Idealize.ShloMosaic.Lib.Pipeline.Value

@[expose] public section

set_option maxRecDepth 16384

noncomputable section

namespace Cert.ReferenceRow

open Cert.On_no_tie_so_far Cert.On_no_tie_so_far.Gen Idealize.ShloMosaic

/-- The reference's result, in the reference's own operations. -/
def top (x : FVec Ideal S256x2048 .f32) : FVec Ideal S256x8 .f32 :=
  fn_take_along_axis (F := Ideal) x (extractStridedSlice S256x8 ![0, 0] (fn_argsort (F := Ideal) (Host.negf x)) slices_S256x2048_S256x8_0_0)

/-- The comparator's preparation of a key (one zero, one NaN) changes no extended real. -/
theorem prepared (a : Ideal .f32) :
    Scalar.select (FloatOps.cmpf .une a a) (FloatOps.ofBits .f32 0x7FC00000#32)
      (Scalar.select (FloatOps.cmpf .oeq a (FloatOps.ofBits .f32 0x00000000#32)) (FloatOps.ofBits .f32 0x00000000#32) a) = a := by
  have h1 : FloatOps.cmpf .une a a = 0#1 := by
    show Ideal.cmp .une a a = 0#1
    simp [Ideal.cmp]
  rw [h1]
  by_cases h : a = FloatOps.ofBits .f32 0x00000000#32
  · subst h; simp [Scalar.select]
  · have h2 : FloatOps.cmpf .oeq a (FloatOps.ofBits .f32 0x00000000#32) = 0#1 := by
      exact (WordCmp.ofBool_decide_eq_zero_iff _).mpr h
    rw [h2]; rfl

/-- One position comes before another when its key is less. -/
theorem comparator_iff (l r : Ideal .f32 × BitVec 32) : comparator_f32_i32_d1 (F := Ideal) l r = 1#1 ↔ (l.1 : EReal) < r.1 := by
  unfold comparator_f32_i32_d1
  simp only [prepared]
  exact WordCmp.ofBool_decide_eq_one_iff _

/-- Where the descending order of row `r` takes its `k`-th value from. -/
def source (x : FVec Ideal S256x2048 .f32) (r : Fin 256) : Fin 2048 → Fin 2048 :=
  sortedFrom fun k k' => comparator_f32_i32_d1 (F := Ideal) (Host.negf x (ix2 r k), BitVec.ofNat 32 k.val) (Host.negf x (ix2 r k'), BitVec.ofNat 32 k'.val) == 1#1

theorem argsort_apply (x : FVec Ideal S256x2048 .f32) (r : Fin 256) (k : Fin 2048) :
    fn_argsort (F := Ideal) (Host.negf x) (ix2 r k) = BitVec.ofNat 32 (source x r k).val := by
  have hj : ∀ j : Fin 2048, Shape.Idx.along (s := S256x2048) (ix2 r k) ⟨1, Nat.one_lt_two⟩ j = ix2 r j := fun j => by
    funext a; fin_cases a <;> rfl
  refine (congrArg (iotaInDim S256x2048 32 1) (hj _)).trans ?_
  refine congrArg (fun R => BitVec.ofNat 32 (sortedFrom R k).val) (funext fun i => funext fun i' => ?_)
  exact congrArg₂ (fun p q : S256x2048.Idx => comparator_f32_i32_d1 (F := Ideal) (Host.negf x p, iotaInDim S256x2048 32 1 p)
    (Host.negf x q, iotaInDim S256x2048 32 1 q) == 1#1) (hj i) (hj i')

/-- A word that names a position names it as a signed integer. -/
theorem word_toInt (p : Fin 2048) : (BitVec.ofNat 32 p.val).toInt = p.val := by
  exact WordCmp.toInt_ofNat_of_lt (by have := p.isLt; omega)

/-- The lookup of one value per entry, along the row, at a word that names a position of the row. -/
theorem gather_apply (x : FVec Ideal S256x2048 .f32) (idx : IVec S256x8x1 32) (r : Fin 256) (k : Fin 8) (p : Fin 2048)
    (hp : idx (ix3 r k 0) = BitVec.ofNat 32 p.val) :
    Host.gather gather_S256x2048_S256x8x1_S256x8_n_1_0_0_1_2_11 x idx (ix2 r k) = x (ix2 r p) := by
  let d : GatherDims S256x2048 S256x8x1 S256x8 := gather_S256x2048_S256x8x1_S256x8_n_1_0_0_1_2_11
  show x (d.operandIdx (ix2 r k) idx) = _
  refine congrArg x (funext fun a => Fin.ext ?_)
  show d.start (ix2 r k) idx a + d.batchCoord (ix2 r k) a + d.offCoord (ix2 r k) a = _
  have h01 : a = 0 ∨ a = 1 := by fin_cases a <;> simp
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix2 r k) ⟨List.idxOf (1 : Fin 2) d.startIndexMap,
        List.idxOf_lt_length_iff.2 (List.mem_singleton.mpr rfl)⟩ = ix3 r k 0 := by
      funext b; fin_cases b <;> rfl
    rw [hsi, hp, word_toInt]
    show min p.val 2047 = p.val
    have := p.isLt
    omega

/-- The whole lookup, its wrapping and its range check included. -/
theorem take_apply (x : FVec Ideal S256x2048 .f32) (idx : IVec S256x8 32) (r : Fin 256) (k : Fin 8) (p : Fin 2048)
    (hp : idx (ix2 r k) = BitVec.ofNat 32 p.val) : fn_take_along_axis (F := Ideal) x idx (ix2 r k) = x (ix2 r p) := by
  have h0 : IntOp.cmpi .slt (BitVec.ofNat 32 p.val) 0#32 = 0#1 := by
    refine (WordCmp.ofBool_decide_eq_zero_iff _).mpr ?_
    rw [word_toInt]; exact not_lt.mpr (Int.natCast_nonneg _)
  have h1 : IntOp.cmpi .sge (BitVec.ofNat 32 p.val) 0#32 = 1#1 := by
    refine (WordCmp.ofBool_decide_eq_one_iff _).mpr ?_
    rw [word_toInt]; exact Int.natCast_nonneg _
  have h2 : IntOp.cmpi .sle (BitVec.ofNat 32 p.val) 2047#32 = 1#1 := by
    refine (WordCmp.ofBool_decide_eq_one_iff _).mpr ?_
    rw [word_toInt]
    have : (2047#32).toInt = 2047 := by decide
    have := p.isLt
    omega
  pointwise [fn_take_along_axis]
  rw [gather_apply x _ r k p (by pointwise; rw [hp, h0]; rfl), hp, h0]
  have hs : ∀ a b : BitVec 32, Scalar.select 0#1 a b = b := fun _ _ => rfl
  simp only [hs, Finset.univ_unique, Finset.fold_singleton, h1, h2]
  rfl

/-- THE REFERENCE, ROW BY ROW: entry `(r, k)` is the row's value at the `k`-th source. -/
theorem top_apply (x : FVec Ideal S256x2048 .f32) (r : Fin 256) (k : Fin 8) :
    top x (ix2 r k) = x (ix2 r (source x r (k.castLE (by decide)))) := by
  refine take_apply x _ r k _ ?_
  refine (extractStridedSlice_apply _ _ _ _ (ix2 r (k.castLE (by decide))) (fun a => by fin_cases a <;> simp)).trans ?_
  exact argsort_apply x r _

theorem source_surjective (x : FVec Ideal S256x2048 .f32) (r : Fin 256) : Function.Surjective (source x r) := sortedFrom_surjective _

/-- The sources put the row in descending order. -/
theorem source_descending (x : FVec Ideal S256x2048 .f32) (r : Fin 256) (i j : Fin 2048) (hij : i < j) :
    (x (ix2 r (source x r j)) : EReal) ≤ x (ix2 r (source x r i)) := by
  let key : Fin 2048 → EReal := fun k => Host.negf x (ix2 r k)
  let before : Fin 2048 → Fin 2048 → Bool := fun k k' =>
    comparator_f32_i32_d1 (F := Ideal) (key k, BitVec.ofNat 32 k.val) (key k', BitVec.ofNat 32 k'.val) == 1#1
  have hiff : ∀ k k', before k k' = true ↔ key k < key k' := fun k k' => (beq_iff_eq).trans (comparator_iff _ _)
  have hnot : ∀ k k', before k k' = false ↔ key k' ≤ key k := fun k k' => by
    rw [← not_lt, ← hiff, Bool.not_eq_true]
  have h : before (source x r j) (source x r i) = false :=
    sortedFrom_noInversion before before (fun a b h => (hnot b a).mpr ((hiff a b).mp h).le) (fun _ _ h => h)
      (fun a b c hab hbc => (hnot a c).mpr (((hnot b c).mp hbc).trans ((hnot a b).mp hab))) i j hij
  exact EReal.neg_le_neg_iff.mp ((hnot _ _).mp h)

end Cert.ReferenceRow

end
-- ==== Proof.Mask.lean ====
/- The mask's text, read at one entry. -/
module

public import proofs.«01_k».proof.Proof.KernelRow
public import proofs.«01_k».proof.Proof.ReferenceRow

@[expose] public section

noncomputable section

/-! # What the mask says

`no_tie_so_far` keeps entry `(r, k)` when every one of the first `k` steps of the row of results goes
strictly down and the entry is at least the kernel's fill value. -/

namespace Cert.Mask

open Cert.On_no_tie_so_far Cert.On_no_tie_so_far.Gen Idealize.ShloMosaic Cert.ReferenceRow

/-- A column of the results. -/
def column (t : FVec Ideal S256x8 .f32) (k : Fin 8) : FVec Ideal S256x1 .f32 :=
  extractStridedSlice S256x1 ![0, k.val] t (by revert k; decide)

theorem column_apply (t : FVec Ideal S256x8 .f32) (k : Fin 8) (r : Fin 256) : column t k (ix2 r 0) = t (ix2 r k) :=
  extractStridedSlice_apply _ _ _ _ (ix2 r k) (fun a => by fin_cases a <;> simp)

/-- Whether the first `n` steps go strictly down, row by row. -/
def descends (t : FVec Ideal S256x8 .f32) : Nat → IVec S256x1 1
  | 0 => broadcastInDim S256x1 ![] bcast_S_S256x1 (constantI S_ 1 1#1)
  | n + 1 => andi (descends t n) (cmpf .olt (column t (Fin.ofNat 8 (n + 1))) (column t (Fin.ofNat 8 n)))

theorem both (p q : BitVec 1) : IntOp.andi p q = 1#1 ↔ p = 1#1 ∧ q = 1#1 := by
  revert p q; decide

theorem descends_apply (t : FVec Ideal S256x8 .f32) (r : Fin 256) (n : Nat) (h : descends t n (ix2 r 0) = 1#1) (i : Nat) (hi : i < n) :
    (t (ix2 r (Fin.ofNat 8 (i + 1))) : EReal) < t (ix2 r (Fin.ofNat 8 i)) := by
  induction n with
  | zero => omega
  | succ n ih =>
    obtain ⟨h1, h2⟩ := (both _ _).mp h
    rcases Nat.lt_succ_iff_lt_or_eq.mp hi with hi | rfl
    · exact ih h1 hi
    · have h3 := (WordCmp.ofBool_decide_eq_one_iff _).mp h2
      rwa [column_apply, column_apply] at h3

theorem fn_eq (x : FVec Ideal S256x2048 .f32) :
    fn (F := Ideal) x = andi
      (concatenate S256x8 1 [⟨S256x1, descends (top x) 0⟩, ⟨S256x1, descends (top x) 1⟩, ⟨S256x1, descends (top x) 2⟩,
        ⟨S256x1, descends (top x) 3⟩, ⟨S256x1, descends (top x) 4⟩, ⟨S256x1, descends (top x) 5⟩,
        ⟨S256x1, descends (top x) 6⟩, ⟨S256x1, descends (top x) 7⟩]
        concatenates_S256x1_S256x1_S256x1_S256x1_S256x1_S256x1_S256x1_S256x1_S256x8_d1)
      (cmpf .oge (top x) (broadcastInDim S256x8 ![] bcast_S_S256x8 (constant S_ .f32 0xFF7FFFFF#32))) := rfl

/-- THE MASK, READ at an entry. -/
theorem kept (x : FVec Ideal S256x2048 .f32) (r : Fin 256) (k : Fin 8) (h : fn (F := Ideal) x (ix2 r k) = 1#1) :
    (∀ i, i < k.val → (top x (ix2 r (Fin.ofNat 8 (i + 1))) : EReal) < top x (ix2 r (Fin.ofNat 8 i))) ∧
      KernelRow.floor ≤ top x (ix2 r k) := by
  rw [fn_eq] at h
  obtain ⟨h1, h2⟩ := (both _ _).mp h
  have h1 := (KernelRow.eight_apply (fun k => descends (top x) k.val) _ r k).symm.trans h1
  exact ⟨descends_apply _ r _ h1, (WordCmp.ofBool_decide_eq_one_iff _).mp h2⟩

end Cert.Mask

end

end
-- ==== Proof.Equation.lean ====
/- The value claim's equation: where the mask holds, what the merge leaves on a device is the reference's result. -/
module

public import proofs.«01_k».proof.Proof.Mask
public import Idealize.ShloMosaic.Lib.Layout

@[expose] public section

namespace Cert.Equation

open Cert.KernelIdeal Idealize.ShloMosaic Cert.Exchange Cert.Rounds8 Cert.KernelRow Cert.ReferenceRow

variable (x : FVec Ideal (Mat 2048) .f32)

/-- What device `c` holds of the whole `x`. -/
def part (c : Dev nD) : FVec Ideal S256x1024 .f32 :=
  Layout.blockN ⟨2, ![256, 1024]⟩ ⟨2, ![256, 2048]⟩ (Layout.meshBlock [2, 2, 2] ![[], [2]] c) x

/-- Its columns are the half that its `z` names. -/
theorem part_apply (c : Dev nD) (r : Fin 256) (k : Fin 1024) (i : Fin 2048) (hi : i.val = c.val % 2 * 1024 + k.val) :
    part x c (ix2 r k) = x (ix2 r i) := by
  refine congrArg x (funext fun a => Fin.ext ?_)
  rw [Layout.TilesN.idx_val]
  fin_cases a
  · simp [Layout.meshLin]
  · simp [Layout.meshLin, Layout.meshCoord, Layout.cutSize, hi]

theorem peer_half (c : Dev nD) : (peer c).val % 2 = 1 - c.val % 2 := by revert c; decide

/-- A device and its peer hold the whole of each row between them. -/
theorem row_parts (c : Dev nD) (r : Fin 256) (y : EReal) :
    (∃ i, row (n := 2048) x r i = y) ↔
      (∃ k, row (n := 1024) (part x c) r k = y) ∨ ∃ k, row (n := 1024) (part x (peer c)) r k = y := by
  have hp := peer_half c
  constructor
  · rintro ⟨i, rfl⟩
    have hi := i.isLt
    by_cases h : i.val / 1024 = c.val % 2
    · exact .inl ⟨⟨i.val % 1024, by omega⟩, part_apply x c r _ i (by simp only []; omega)⟩
    · exact .inr ⟨⟨i.val % 1024, by omega⟩, part_apply x (peer c) r _ i (by simp only []; omega)⟩
  · rintro (⟨k, rfl⟩ | ⟨k, rfl⟩)
    · have hk := k.isLt
      exact ⟨⟨c.val % 2 * 1024 + k.val, by omega⟩, (part_apply x c r k _ rfl).symm⟩
    · have hk := k.isLt
      exact ⟨⟨(peer c).val % 2 * 1024 + k.val, by omega⟩, (part_apply x (peer c) r k _ rfl).symm⟩

/-- Under the mask, as many distinct values of the row are above entry `(r, k)` of the reference's result as there are
    columns before it. -/
theorem rank_top (r : Fin 256) (k : Fin 8)
    (hdown : ∀ i, i < k.val → (top x (ix2 r (Fin.ofNat 8 (i + 1))) : EReal) < top x (ix2 r (Fin.ofNat 8 i))) :
    (above (row (n := 2048) x r) (top x (ix2 r k))).card = k.val := by
  have hk := k.isLt
  have htop : ∀ i : Fin 2048, i.val ≤ k.val → top x (ix2 r (Fin.ofNat 8 i.val)) = x (ix2 r (source x r i)) := fun i hi => by
    rw [top_apply]
    exact congrArg (fun q => x (ix2 r (source x r q))) (Fin.ext (Nat.mod_eq_of_lt (by omega)))
  rw [top_apply]
  refine card_above_sorted (x := row (n := 2048) x r) (σ := source x r) (source_surjective x r) (source_descending x r)
    (k.castLE (by omega)) fun i q hiq hqk => ?_
  have hiq : i.val < q.val := hiq
  have hqk : q.val ≤ k.val := hqk
  have hstep := hdown i.val (by omega)
  rw [htop ⟨i.val + 1, by omega⟩ (by simp only []; omega), htop i (by omega)] at hstep
  refine lt_of_le_of_lt ?_ hstep
  rcases Nat.lt_or_eq_of_le (show i.val + 1 ≤ q.val from hiq) with h | h
  · exact source_descending x r _ _ h
  · exact le_of_eq (congrArg (fun p => x (ix2 r (source x r p))) (Fin.ext h.symm))

/-- THE EQUATION, entry by entry. -/
theorem merge_eq_top (c : Dev nD) (r : Fin 256) (k : Fin 8) (h : Cert.On_no_tie_so_far.fn (F := Ideal) x (ix2 r k) = 1#1) :
    mergeOf (F := Ideal) (candOf (part x c)) (candOf (part x (peer c))) (ix2 r k) = top x (ix2 r k) := by
  obtain ⟨hdown, hfloor⟩ := Mask.kept x r k h
  rw [mergeOf_apply]
  refine taken_two_stages (row_parts x c r) (fun y => (row_pair _ _ r y).trans ?_) hfloor
    ⟨_, (top_apply x r k).symm⟩ (rank_top x r k hdown) k.isLt
  simp only [candOf_apply]

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_no_tie_so_far
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem

/-- The two programs have one table of bodies: each has the one kernel body, at its one label, and the bodies are the same text. -/
theorem bodies_eq : Cert.Kernel.defs₀ (F := Bits) = Cert.KernelIdeal.defs₀ (F := Bits) :=
  congrArg Defs.onTc (funext fun l => funext fun a => by
    match l, a with
    | 0, (_, _) => rfl)

theorem defs_eq : Cert.Kernel.defs (F := Bits) = Cert.KernelIdeal.defs (F := Bits) :=
  congrArg (Pipeline.defs (Cert.Kernel.pcfgs (F := Bits))) bodies_eq

theorem frame_kernel : Cert.quiescent_Kernel := fun m ρ _ => by
  rw [defs_eq]
  exact (θ_run (Cert.KernelIdeal.defs (F := Bits)) _ _).mono (fun _ h => ⟨fun c => (h.1 c).2, h.2⟩) (Exchange.run_main (F := Bits) m ρ)

theorem frame_kernelIdeal : Cert.quiescent_KernelIdeal := fun m ρ _ =>
  (θ_run Cert.KernelIdeal.defs _ _).mono (fun _ h => ⟨fun c => (h.1 c).2, h.2⟩) (Exchange.run_main (F := Ideal) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value both sides are compared with is the reference's own result. -/
theorem value : Cert.algebraic_KernelIdeal_ReferenceIdeal_on_no_tie_so_far := fun m ρ m' ρ' _ hpart =>
  ⟨ReferenceRow.top (m' ((0 : Dev Cert.ReferenceIdeal.nD).tc.loc Cert.ReferenceIdeal.main_arg0)),
    (θ_run Cert.KernelIdeal.defs _ _).mono (fun r h c => ⟨fun i hi => by
        refine (congrFun (h.1 c).1 i).trans ?_
        obtain ⟨a, b, rfl⟩ : ∃ (a : Fin 256) (b : Fin 8), i = ix2 a b := ⟨i 0, i 1, by funext d; fin_cases d <;> rfl⟩
        rw [hpart c, hpart (Exchange.peer c)]
        exact Equation.merge_eq_top _ c a b hi, (h.1 c).2⟩) (Exchange.run_main (F := Ideal) m ρ),
    (θ_run Cert.ReferenceIdeal.defs _ _).mono (fun r h => ⟨fun i _ => congrFun (h 0).1 i, (h 0).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.On_no_tie_so_far.Gen.facts,
    frame_kernel, frame_kernelIdeal, frame_referenceIdeal, trivial, value⟩

end Cert.Proof

end
